-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v439) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x256 : Shape := ⟨2, ![1024, 256]⟩
abbrev S256x8 : Shape := ⟨2, ![256, 8]⟩
abbrev S8x256x20 : Shape := ⟨3, ![8, 256, 20]⟩
abbrev S8x20 : Shape := ⟨2, ![8, 20]⟩
abbrev S8x20x3136 : Shape := ⟨3, ![8, 20, 3136]⟩
abbrev S8x3136 : Shape := ⟨2, ![8, 3136]⟩
abbrev S3136x8 : Shape := ⟨2, ![3136, 8]⟩
abbrev S8x3136x20 : Shape := ⟨3, ![8, 3136, 20]⟩
abbrev S8x20x93312 : Shape := ⟨3, ![8, 20, 93312]⟩
abbrev S8x93312 : Shape := ⟨2, ![8, 93312]⟩
abbrev S93312x128 : Shape := ⟨2, ![93312, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x8 : S_.BroadcastsInDim S256x8 (![] : Fin 0 → Fin S256x8.rank)
  reducesTo_S256x8_S_d0_1 : S256x8.ReducesTo [0, 1] S_
  bcast_S_S8x256x20 : S_.BroadcastsInDim S8x256x20 (![] : Fin 0 → Fin S8x256x20.rank)
  reducesTo_S8x256x20_S_d0_1_2 : S8x256x20.ReducesTo [0, 1, 2] S_
  bcast_S_S8x20 : S_.BroadcastsInDim S8x20 (![] : Fin 0 → Fin S8x20.rank)
  reducesTo_S8x20_S_d0_1 : S8x20.ReducesTo [0, 1] S_
  bcast_S_S8x20x3136 : S_.BroadcastsInDim S8x20x3136 (![] : Fin 0 → Fin S8x20x3136.rank)
  reducesTo_S8x20x3136_S_d0_1_2 : S8x20x3136.ReducesTo [0, 1, 2] S_
  bcast_S_S8x3136 : S_.BroadcastsInDim S8x3136 (![] : Fin 0 → Fin S8x3136.rank)
  reducesTo_S8x3136_S_d0_1 : S8x3136.ReducesTo [0, 1] S_
  bcast_S_S3136x8 : S_.BroadcastsInDim S3136x8 (![] : Fin 0 → Fin S3136x8.rank)
  reducesTo_S3136x8_S_d0_1 : S3136x8.ReducesTo [0, 1] S_
  bcast_S_S8x3136x20 : S_.BroadcastsInDim S8x3136x20 (![] : Fin 0 → Fin S8x3136x20.rank)
  reducesTo_S8x3136x20_S_d0_1_2 : S8x3136x20.ReducesTo [0, 1, 2] S_
  bcast_S_S8x20x93312 : S_.BroadcastsInDim S8x20x93312 (![] : Fin 0 → Fin S8x20x93312.rank)
  reducesTo_S8x20x93312_S_d0_1_2 : S8x20x93312.ReducesTo [0, 1, 2] S_
  bcast_S_S8x93312 : S_.BroadcastsInDim S8x93312 (![] : Fin 0 → Fin S8x93312.rank)
  reducesTo_S8x93312_S_d0_1 : S8x93312.ReducesTo [0, 1] S_
  bcast_S_S93312x128 : S_.BroadcastsInDim S93312x128 (![] : Fin 0 → Fin S93312x128.rank)
  reducesTo_S93312x128_S_d0_1 : S93312x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10 .f32) (main_v64 : IVec S_ 1) (main_v67 : IVec S128x10 1) : IVec S_ 1 :=
  let main_c_26 : IVec S_ 1 := constantI S_ 1 1#1
  let main_v68 : IVec S_ 1 := (fun x v => Host.reduce IntOp.andi x v reducesTo_S128x10_S_d0_1 h_S_) main_v67 main_c_26
  let main_v69 : IVec S_ 1 := andi main_v64 main_v68
  let main_v70 : FVec F S10 .f32 := Host.absf main_arg14
  let main_cst_27 : FVec F S_ .f32 := constant S_ .f32 0x7F800000#32
  let main_v71 : FVec F S10 .f32 := broadcastInDim S10 ![] bcast_S_S10 main_cst_27
  let main_v72 : IVec S10 1 := cmpf .olt main_v70 main_v71
  let main_c_28 : IVec S_ 1 := constantI S_ 1 1#1
  let main_v73 : IVec S_ 1 := (fun x v => Host.reduce IntOp.andi x v reducesTo_S10_S_d0 h_S_) main_v72 main_c_28
  let main_v74 : IVec S_ 1 := andi main_v69 main_v73
  main_v74

def fn_part3 {F : FTy → Type} [FloatOps F] (main_arg11 : FVec F S93312x128 .f32) (main_arg12 : FVec F S128 .f32) (main_arg13 : FVec F S128x10 .f32) (main_arg14 : FVec F S10 .f32) (main_v49 : IVec S_ 1) (main_v50 : FVec F S8x93312 .f32) : IVec S_ 1 :=
  let main_cst_19 : FVec F S_ .f32 := constant S_ .f32 0x7F800000#32
  let main_v51 : FVec F S8x93312 .f32 := broadcastInDim S8x93312 ![] bcast_S_S8x93312 main_cst_19
  let main_v52 : IVec S8x93312 1 := cmpf .olt main_v50 main_v51
  let main_c_20 : IVec S_ 1 := constantI S_ 1 1#1
  let main_v53 : IVec S_ 1 := (fun x v => Host.reduce IntOp.andi x v reducesTo_S8x93312_S_d0_1 h_S_) main_v52 main_c_20
  let main_v54 : IVec S_ 1 := andi main_v49 main_v53
  let main_v55 : FVec F S93312x128 .f32 := Host.absf main_arg11
  let main_cst_21 : FVec F S_ .f32 := constant S_ .f32 0x7F800000#32
  let main_v56 : FVec F S93312x128 .f32 := broadcastInDim S93312x128 ![] bcast_S_S93312x128 main_cst_21
  let main_v57 : IVec S93312x128 1 := cmpf .olt main_v55 main_v56
  let main_c_22 : IVec S_ 1 := constantI S_ 1 1#1
  let main_v58 : IVec S_ 1 := (fun x v => Host.reduce IntOp.andi x v reducesTo_S93312x128_S_d0_1 h_S_) main_v57 main_c_22
  let main_v59 : IVec S_ 1 := andi main_v54 main_v58
  let main_v60 : FVec F S128 .f32 := Host.absf main_arg12
  let main_cst_23 : FVec F S_ .f32 := constant S_ .f32 0x7F800000#32
  let main_v61 : FVec F S128 .f32 := broadcastInDim S128 ![] bcast_S_S128 main_cst_23
  let main_v62 : IVec S128 1 := cmpf .olt main_v60 main_v61
  let main_c_24 : IVec S_ 1 := constantI S_ 1 1#1
  let main_v63 : IVec S_ 1 := (fun x v => Host.reduce IntOp.andi x v reducesTo_S128_S_d0 h_S_) main_v62 main_c_24
  let main_v64 : IVec S_ 1 := andi main_v59 main_v63
  let main_v65 : FVec F S128x10 .f32 := Host.absf main_arg13
  let main_cst_25 : FVec F S_ .f32 := constant S_ .f32 0x7F800000#32
  let main_v66 : FVec F S128x10 .f32 := broadcastInDim S128x10 ![] bcast_S_S128x10 main_cst_25
  let main_v67 : IVec S128x10 1 := cmpf .olt main_v65 main_v66
  fn_part4 (F := F) main_arg14 main_v64 main_v67

def fn_part2 {F : FTy → Type} [FloatOps F] (main_arg7 : FVec F S8x3136x20 .f32) (main_arg8 : FVec F S8x20 .f32) (main_arg9 : FVec F S8x20x93312 .f32) (main_arg10 : FVec F S8x93312 .f32) (main_arg11 : FVec F S93312x128 .f32) (main_arg12 : FVec F S128 .f32) (main_arg13 : FVec F S128x10 .f32) (main_arg14 : FVec F S10 .f32) (main_v29 : IVec S_ 1) (main_v32 : IVec S3136x8 1) (main_c_12 : IVec S_ 1) : IVec S_ 1 :=
  let main_v33 : IVec S_ 1 := (fun x v => Host.reduce IntOp.andi x v reducesTo_S3136x8_S_d0_1 h_S_) main_v32 main_c_12
  let main_v34 : IVec S_ 1 := andi main_v29 main_v33
  let main_v35 : FVec F S8x3136x20 .f32 := Host.absf main_arg7
  let main_cst_13 : FVec F S_ .f32 := constant S_ .f32 0x7F800000#32
  let main_v36 : FVec F S8x3136x20 .f32 := broadcastInDim S8x3136x20 ![] bcast_S_S8x3136x20 main_cst_13
  let main_v37 : IVec S8x3136x20 1 := cmpf .olt main_v35 main_v36
  let main_c_14 : IVec S_ 1 := constantI S_ 1 1#1
  let main_v38 : IVec S_ 1 := (fun x v => Host.reduce IntOp.andi x v reducesTo_S8x3136x20_S_d0_1_2 h_S_) main_v37 main_c_14
  let main_v39 : IVec S_ 1 := andi main_v34 main_v38
  let main_v40 : FVec F S8x20 .f32 := Host.absf main_arg8
  let main_cst_15 : FVec F S_ .f32 := constant S_ .f32 0x7F800000#32
  let main_v41 : FVec F S8x20 .f32 := broadcastInDim S8x20 ![] bcast_S_S8x20 main_cst_15
  let main_v42 : IVec S8x20 1 := cmpf .olt main_v40 main_v41
  let main_c_16 : IVec S_ 1 := constantI S_ 1 1#1
  let main_v43 : IVec S_ 1 := (fun x v => Host.reduce IntOp.andi x v reducesTo_S8x20_S_d0_1 h_S_) main_v42 main_c_16
  let main_v44 : IVec S_ 1 := andi main_v39 main_v43
  let main_v45 : FVec F S8x20x93312 .f32 := Host.absf main_arg9
  let main_cst_17 : FVec F S_ .f32 := constant S_ .f32 0x7F800000#32
  let main_v46 : FVec F S8x20x93312 .f32 := broadcastInDim S8x20x93312 ![] bcast_S_S8x20x93312 main_cst_17
  let main_v47 : IVec S8x20x93312 1 := cmpf .olt main_v45 main_v46
  let main_c_18 : IVec S_ 1 := constantI S_ 1 1#1
  let main_v48 : IVec S_ 1 := (fun x v => Host.reduce IntOp.andi x v reducesTo_S8x20x93312_S_d0_1_2 h_S_) main_v47 main_c_18
  let main_v49 : IVec S_ 1 := andi main_v44 main_v48
  let main_v50 : FVec F S8x93312 .f32 := Host.absf main_arg10
  fn_part3 (F := F) main_arg11 main_arg12 main_arg13 main_arg14 main_v49 main_v50

def fn_part1 {F : FTy → Type} [FloatOps F] (main_arg4 : FVec F S8x20x3136 .f32) (main_arg5 : FVec F S8x3136 .f32) (main_arg6 : FVec F S3136x8 .f32) (main_arg7 : FVec F S8x3136x20 .f32) (main_arg8 : FVec F S8x20 .f32) (main_arg9 : FVec F S8x20x93312 .f32) (main_arg10 : FVec F S8x93312 .f32) (main_arg11 : FVec F S93312x128 .f32) (main_arg12 : FVec F S128 .f32) (main_arg13 : FVec F S128x10 .f32) (main_arg14 : FVec F S10 .f32) (main_v14 : IVec S_ 1) (main_v15 : FVec F S8x20 .f32) (main_cst_5 : FVec F S_ .f32) : IVec S_ 1 :=
  let main_v16 : FVec F S8x20 .f32 := broadcastInDim S8x20 ![] bcast_S_S8x20 main_cst_5
  let main_v17 : IVec S8x20 1 := cmpf .olt main_v15 main_v16
  let main_c_6 : IVec S_ 1 := constantI S_ 1 1#1
  let main_v18 : IVec S_ 1 := (fun x v => Host.reduce IntOp.andi x v reducesTo_S8x20_S_d0_1 h_S_) main_v17 main_c_6
  let main_v19 : IVec S_ 1 := andi main_v14 main_v18
  let main_v20 : FVec F S8x20x3136 .f32 := Host.absf main_arg4
  let main_cst_7 : FVec F S_ .f32 := constant S_ .f32 0x7F800000#32
  let main_v21 : FVec F S8x20x3136 .f32 := broadcastInDim S8x20x3136 ![] bcast_S_S8x20x3136 main_cst_7
  let main_v22 : IVec S8x20x3136 1 := cmpf .olt main_v20 main_v21
  let main_c_8 : IVec S_ 1 := constantI S_ 1 1#1
  let main_v23 : IVec S_ 1 := (fun x v => Host.reduce IntOp.andi x v reducesTo_S8x20x3136_S_d0_1_2 h_S_) main_v22 main_c_8
  let main_v24 : IVec S_ 1 := andi main_v19 main_v23
  let main_v25 : FVec F S8x3136 .f32 := Host.absf main_arg5
  let main_cst_9 : FVec F S_ .f32 := constant S_ .f32 0x7F800000#32
  let main_v26 : FVec F S8x3136 .f32 := broadcastInDim S8x3136 ![] bcast_S_S8x3136 main_cst_9
  let main_v27 : IVec S8x3136 1 := cmpf .olt main_v25 main_v26
  let main_c_10 : IVec S_ 1 := constantI S_ 1 1#1
  let main_v28 : IVec S_ 1 := (fun x v => Host.reduce IntOp.andi x v reducesTo_S8x3136_S_d0_1 h_S_) main_v27 main_c_10
  let main_v29 : IVec S_ 1 := andi main_v24 main_v28
  let main_v30 : FVec F S3136x8 .f32 := Host.absf main_arg6
  let main_cst_11 : FVec F S_ .f32 := constant S_ .f32 0x7F800000#32
  let main_v31 : FVec F S3136x8 .f32 := broadcastInDim S3136x8 ![] bcast_S_S3136x8 main_cst_11
  let main_v32 : IVec S3136x8 1 := cmpf .olt main_v30 main_v31
  let main_c_12 : IVec S_ 1 := constantI S_ 1 1#1
  fn_part2 (F := F) main_arg7 main_arg8 main_arg9 main_arg10 main_arg11 main_arg12 main_arg13 main_arg14 main_v29 main_v32 main_c_12

def fn {F : FTy → Type} [FloatOps F] (main_arg0 : FVec F S1024x256 .f32) (main_arg1 : FVec F S256x8 .f32) (main_arg2 : FVec F S8x256x20 .f32) (main_arg3 : FVec F S8x20 .f32) (main_arg4 : FVec F S8x20x3136 .f32) (main_arg5 : FVec F S8x3136 .f32) (main_arg6 : FVec F S3136x8 .f32) (main_arg7 : FVec F S8x3136x20 .f32) (main_arg8 : FVec F S8x20 .f32) (main_arg9 : FVec F S8x20x93312 .f32) (main_arg10 : FVec F S8x93312 .f32) (main_arg11 : FVec F S93312x128 .f32) (main_arg12 : FVec F S128 .f32) (main_arg13 : FVec F S128x10 .f32) (main_arg14 : FVec F S10 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_c_0 : IVec S_ 1 := constantI S_ 1 1#1
  let main_v4 : IVec S_ 1 := andi main_c_0 main_v3
  let main_v5 : FVec F S256x8 .f32 := Host.absf main_arg1
  let main_cst_1 : FVec F S_ .f32 := constant S_ .f32 0x7F800000#32
  let main_v6 : FVec F S256x8 .f32 := broadcastInDim S256x8 ![] bcast_S_S256x8 main_cst_1
  let main_v7 : IVec S256x8 1 := cmpf .olt main_v5 main_v6
  let main_c_2 : IVec S_ 1 := constantI S_ 1 1#1
  let main_v8 : IVec S_ 1 := (fun x v => Host.reduce IntOp.andi x v reducesTo_S256x8_S_d0_1 h_S_) main_v7 main_c_2
  let main_v9 : IVec S_ 1 := andi main_v4 main_v8
  let main_v10 : FVec F S8x256x20 .f32 := Host.absf main_arg2
  let main_cst_3 : FVec F S_ .f32 := constant S_ .f32 0x7F800000#32
  let main_v11 : FVec F S8x256x20 .f32 := broadcastInDim S8x256x20 ![] bcast_S_S8x256x20 main_cst_3
  let main_v12 : IVec S8x256x20 1 := cmpf .olt main_v10 main_v11
  let main_c_4 : IVec S_ 1 := constantI S_ 1 1#1
  let main_v13 : IVec S_ 1 := (fun x v => Host.reduce IntOp.andi x v reducesTo_S8x256x20_S_d0_1_2 h_S_) main_v12 main_c_4
  let main_v14 : IVec S_ 1 := andi main_v9 main_v13
  let main_v15 : FVec F S8x20 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_arg14 main_v14 main_v15 main_cst_5
-- ==== Kernel.lean ====
abbrev S1024x256 : Shape := ⟨2, ![1024, 256]⟩
abbrev S256x8 : Shape := ⟨2, ![256, 8]⟩
abbrev S8x256x20 : Shape := ⟨3, ![8, 256, 20]⟩
abbrev S8x20 : Shape := ⟨2, ![8, 20]⟩
abbrev S8x20x3136 : Shape := ⟨3, ![8, 20, 3136]⟩
abbrev S8x3136 : Shape := ⟨2, ![8, 3136]⟩
abbrev S3136x8 : Shape := ⟨2, ![3136, 8]⟩
abbrev S8x3136x20 : Shape := ⟨3, ![8, 3136, 20]⟩
abbrev S8x20x93312 : Shape := ⟨3, ![8, 20, 93312]⟩
abbrev S8x93312 : Shape := ⟨2, ![8, 93312]⟩
abbrev S93312x128 : Shape := ⟨2, ![93312, 128]⟩
abbrev S128 : Shape := ⟨1, ![128]⟩
abbrev S128x10 : Shape := ⟨2, ![128, 10]⟩
abbrev S10 : Shape := ⟨1, ![10]⟩
abbrev S8x20x128 : Shape := ⟨3, ![8, 20, 128]⟩
abbrev S8x128 : Shape := ⟨2, ![8, 128]⟩
abbrev S2x3456x128 : Shape := ⟨3, ![2, 3456, 128]⟩
abbrev S2x20x93312 : Shape := ⟨3, ![2, 20, 93312]⟩
abbrev S2 : Shape := ⟨1, ![2]⟩
abbrev S_ : Shape := ⟨0, ![]⟩
abbrev S1 : Shape := ⟨1, ![1]⟩
abbrev S1x20x93312 : Shape := ⟨3, ![1, 20, 93312]⟩
abbrev S20x93312 : Shape := ⟨2, ![20, 93312]⟩
abbrev S1x3456x128 : Shape := ⟨3, ![1, 3456, 128]⟩
abbrev S3456x128 : Shape := ⟨2, ![3456, 128]⟩
abbrev S20x128 : Shape := ⟨2, ![20, 128]⟩
abbrev S1x20x128 : Shape := ⟨3, ![1, 20, 128]⟩
abbrev S160x128 : Shape := ⟨2, ![160, 128]⟩
abbrev S256x8x20 : Shape := ⟨3, ![256, 8, 20]⟩
abbrev S256x160 : Shape := ⟨2, ![256, 160]⟩
abbrev S160x3136 : Shape := ⟨2, ![160, 3136]⟩
abbrev S3136x8x20 : Shape := ⟨3, ![3136, 8, 20]⟩
abbrev S3136x160 : Shape := ⟨2, ![3136, 160]⟩
abbrev S8x8 : Shape := ⟨2, ![8, 8]⟩
abbrev S8x8x20 : Shape := ⟨3, ![8, 8, 20]⟩
abbrev S8x160 : Shape := ⟨2, ![8, 160]⟩
abbrev S1x160 : Shape := ⟨2, ![1, 160]⟩
abbrev S1x128 : Shape := ⟨2, ![1, 128]⟩
abbrev S1x10 : Shape := ⟨2, ![1, 10]⟩
abbrev S1024x10 : Shape := ⟨2, ![1024, 10]⟩
abbrev S256x256 : Shape := ⟨2, ![256, 256]⟩
abbrev S256x10 : Shape := ⟨2, ![256, 10]⟩
abbrev S256 : Shape := ⟨1, ![256]⟩
abbrev S256x1 : Shape := ⟨2, ![256, 1]⟩
abbrev S256x3136 : Shape := ⟨2, ![256, 3136]⟩
abbrev S256x128 : Shape := ⟨2, ![256, 128]⟩

abbrev nBuf : Space → Nat
  | .hbm => 37
  | .vmem => 24
  | .smem => 0
  | _ => 0

abbrev bufTy : (tb : Table) → Fin (tcTables nBuf tb) → BufTy
  | .hbm, ⟨0, _⟩ => ⟨S1024x256, .f32⟩
  | .hbm, ⟨1, _⟩ => ⟨S256x8, .f32⟩
  | .hbm, ⟨2, _⟩ => ⟨S8x256x20, .f32⟩
  | .hbm, ⟨3, _⟩ => ⟨S8x20, .f32⟩
  | .hbm, ⟨4, _⟩ => ⟨S8x20x3136, .f32⟩
  | .hbm, ⟨5, _⟩ => ⟨S8x3136, .f32⟩
  | .hbm, ⟨6, _⟩ => ⟨S3136x8, .f32⟩
  | .hbm, ⟨7, _⟩ => ⟨S8x3136x20, .f32⟩
  | .hbm, ⟨8, _⟩ => ⟨S8x20, .f32⟩
  | .hbm, ⟨9, _⟩ => ⟨S8x20x93312, .f32⟩
  | .hbm, ⟨10, _⟩ => ⟨S8x93312, .f32⟩
  | .hbm, ⟨11, _⟩ => ⟨S93312x128, .f32⟩
  | .hbm, ⟨12, _⟩ => ⟨S128, .f32⟩
  | .hbm, ⟨13, _⟩ => ⟨S128x10, .f32⟩
  | .hbm, ⟨14, _⟩ => ⟨S10, .f32⟩
  | .hbm, ⟨15, _⟩ => ⟨S8x20x128, .f32⟩
  | .hbm, ⟨16, _⟩ => ⟨S8x128, .f32⟩
  | .hbm, ⟨17, _⟩ => ⟨S160x128, .f32⟩
  | .hbm, ⟨18, _⟩ => ⟨S256x8x20, .f32⟩
  | .hbm, ⟨19, _⟩ => ⟨S256x160, .f32⟩
  | .hbm, ⟨20, _⟩ => ⟨S160x3136, .f32⟩
  | .hbm, ⟨21, _⟩ => ⟨S3136x8x20, .f32⟩
  | .hbm, ⟨22, _⟩ => ⟨S3136x160, .f32⟩
  | .hbm, ⟨23, _⟩ => ⟨S8x8, .i32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S8x8, .f32⟩
  | .hbm, ⟨30, _⟩ => ⟨S8x8x20, .f32⟩
  | .hbm, ⟨31, _⟩ => ⟨S8x160, .f32⟩
  | .hbm, ⟨32, _⟩ => ⟨S1x160, .f32⟩
  | .hbm, ⟨33, _⟩ => ⟨S1x160, .f32⟩
  | .hbm, ⟨34, _⟩ => ⟨S1x128, .f32⟩
  | .hbm, ⟨35, _⟩ => ⟨S1x10, .f32⟩
  | .hbm, ⟨36, _⟩ => ⟨S1024x10, .f32⟩
  | .local _ .vmem, ⟨0, _⟩ => ⟨S8x20x128, .f32⟩
  | .local _ .vmem, ⟨1, _⟩ => ⟨S8x128, .f32⟩
  | .local _ .vmem, ⟨2, _⟩ => ⟨S93312x128, .bf16⟩
  | .local _ .vmem, ⟨3, _⟩ => ⟨S2x3456x128, .f32⟩
  | .local _ .vmem, ⟨4, _⟩ => ⟨S2x20x93312, .f32⟩
  | .local _ .vmem, ⟨5, _⟩ => ⟨S8x93312, .f32⟩
  | .local _ .vmem, ⟨6, _⟩ => ⟨S256x256, .f32⟩
  | .local _ .vmem, ⟨7, _⟩ => ⟨S256x256, .f32⟩
  | .local _ .vmem, ⟨8, _⟩ => ⟨S256x8, .f32⟩
  | .local _ .vmem, ⟨9, _⟩ => ⟨S256x160, .f32⟩
  | .local _ .vmem, ⟨10, _⟩ => ⟨S1x160, .f32⟩
  | .local _ .vmem, ⟨11, _⟩ => ⟨S160x3136, .f32⟩
  | .local _ .vmem, ⟨12, _⟩ => ⟨S8x3136, .f32⟩
  | .local _ .vmem, ⟨13, _⟩ => ⟨S3136x8, .f32⟩
  | .local _ .vmem, ⟨14, _⟩ => ⟨S3136x160, .f32⟩
  | .local _ .vmem, ⟨15, _⟩ => ⟨S1x160, .f32⟩
  | .local _ .vmem, ⟨16, _⟩ => ⟨S160x128, .f32⟩
  | .local _ .vmem, ⟨17, _⟩ => ⟨S8x128, .f32⟩
  | .local _ .vmem, ⟨18, _⟩ => ⟨S8x160, .f32⟩
  | .local _ .vmem, ⟨19, _⟩ => ⟨S1x128, .f32⟩
  | .local _ .vmem, ⟨20, _⟩ => ⟨S128x10, .f32⟩
  | .local _ .vmem, ⟨21, _⟩ => ⟨S1x10, .f32⟩
  | .local _ .vmem, ⟨22, _⟩ => ⟨S256x10, .f32⟩
  | .local _ .vmem, ⟨23, _⟩ => ⟨S256x10, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg14_0 : Ref sig .tc := ⟨.vmem, 21, rfl⟩
abbrev cc1_stg15_0 : Ref sig .tc := ⟨.vmem, 22, rfl⟩
abbrev cc1_stg15_1 : Ref sig .tc := ⟨.vmem, 23, rfl⟩
abbrev cc0_sem0_0 : DmaSem sig := 0
abbrev cc0_sem1_0 : DmaSem sig := 1
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem15_0 : DmaSem sig := 23
abbrev cc1_sem15_1 : DmaSem sig := 24

abbrev nD : Nat := 1
abbrev τ : Topo := Topo.v7x

variable {F : FTy → Type} [FloatOps F]

abbrev grid0 : Pipeline.Grid := .none

abbrev stage0_0 : Fin 1 → Memref sig .tc .vmem S8x20x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x160 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S160x3136 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x3136 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3136x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3136x160 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x160 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S160x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S8x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S8x160 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x10 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x10 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S256x10 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== ReferenceIdeal.lean ====
abbrev S1024x256 : Shape := ⟨2, ![1024, 256]⟩
abbrev S256x8 : Shape := ⟨2, ![256, 8]⟩
abbrev S8x256x20 : Shape := ⟨3, ![8, 256, 20]⟩
abbrev S8x20 : Shape := ⟨2, ![8, 20]⟩
abbrev S8x20x3136 : Shape := ⟨3, ![8, 20, 3136]⟩
abbrev S8x3136 : Shape := ⟨2, ![8, 3136]⟩
abbrev S3136x8 : Shape := ⟨2, ![3136, 8]⟩
abbrev S8x3136x20 : Shape := ⟨3, ![8, 3136, 20]⟩
abbrev S8x20x93312 : Shape := ⟨3, ![8, 20, 93312]⟩
abbrev S8x93312 : Shape := ⟨2, ![8, 93312]⟩
abbrev S93312x128 : Shape := ⟨2, ![93312, 128]⟩
abbrev S128 : Shape := ⟨1, ![128]⟩
abbrev S128x10 : Shape := ⟨2, ![128, 10]⟩
abbrev S10 : Shape := ⟨1, ![10]⟩
abbrev S1024x8 : Shape := ⟨2, ![1024, 8]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S1024x2x2 : Shape := ⟨3, ![1024, 2, 2]⟩
abbrev S1024x3136 : Shape := ⟨2, ![1024, 3136]⟩
abbrev S1x256x20 : Shape := ⟨3, ![1, 256, 20]⟩
abbrev S256x20 : Shape := ⟨2, ![256, 20]⟩
abbrev S1024x20 : Shape := ⟨2, ![1024, 20]⟩
abbrev S1x20 : Shape := ⟨2, ![1, 20]⟩
abbrev S20 : Shape := ⟨1, ![20]⟩
abbrev S1x20x3136 : Shape := ⟨3, ![1, 20, 3136]⟩
abbrev S20x3136 : Shape := ⟨2, ![20, 3136]⟩
abbrev S1x3136 : Shape := ⟨2, ![1, 3136]⟩
abbrev S3136 : Shape := ⟨1, ![3136]⟩
abbrev S1024x93312 : Shape := ⟨2, ![1024, 93312]⟩
abbrev S1x3136x20 : Shape := ⟨3, ![1, 3136, 20]⟩
abbrev S3136x20 : Shape := ⟨2, ![3136, 20]⟩
abbrev S1x20x93312 : Shape := ⟨3, ![1, 20, 93312]⟩
abbrev S20x93312 : Shape := ⟨2, ![20, 93312]⟩
abbrev S1x93312 : Shape := ⟨2, ![1, 93312]⟩
abbrev S93312 : Shape := ⟨1, ![93312]⟩
abbrev S1024x128 : Shape := ⟨2, ![1024, 128]⟩
abbrev S1x128 : Shape := ⟨2, ![1, 128]⟩
abbrev S1024x10 : Shape := ⟨2, ![1024, 10]⟩
abbrev S1x10 : Shape := ⟨2, ![1, 10]⟩

abbrev nBuf : Space → Nat
  | .hbm => 525
  | .vmem => 0
  | .smem => 0
  | _ => 0

abbrev hbmTy0_0 (i : Nat) : BufTy := match i % 128 with
  | 0 => ⟨S1024x256, .f32⟩
  | 1 => ⟨S256x8, .f32⟩
  | 2 => ⟨S8x256x20, .f32⟩
  | 3 => ⟨S8x20, .f32⟩
  | 4 => ⟨S8x20x3136, .f32⟩
  | 5 => ⟨S8x3136, .f32⟩
  | 6 => ⟨S3136x8, .f32⟩
  | 7 => ⟨S8x3136x20, .f32⟩
  | 8 => ⟨S8x20, .f32⟩
  | 9 => ⟨S8x20x93312, .f32⟩
  | 10 => ⟨S8x93312, .f32⟩
  | 11 => ⟨S93312x128, .f32⟩
  | 12 => ⟨S128, .f32⟩
  | 13 => ⟨S128x10, .f32⟩
  | 14 => ⟨S10, .f32⟩
  | 15 => ⟨S1024x8, .f32⟩
  | 16 => ⟨S1024x2, .f32⟩
  | 17 => ⟨S1024x2, .i32⟩
  | 18 => ⟨S_, .f32⟩
  | 19 => ⟨S1024, .f32⟩
  | 20 => ⟨S_, .f32⟩
  | 21 => ⟨S1024, .f32⟩
  | 22 => ⟨S1024, .f32⟩
  | 23 => ⟨S1024x1, .f32⟩
  | 24 => ⟨S1024x2, .f32⟩
  | 25 => ⟨S1024x2, .f32⟩
  | 26 => ⟨S1024x2, .f32⟩
  | 27 => ⟨S_, .f32⟩
  | 28 => ⟨S1024, .f32⟩
  | 29 => ⟨S1024x1, .f32⟩
  | 30 => ⟨S1024x2, .f32⟩
  | 31 => ⟨S1024x2, .f32⟩
  | 32 => ⟨S1024, .i32⟩
  | 33 => ⟨S1024x1, .i32⟩
  | 34 => ⟨S_, .f32⟩
  | 35 => ⟨S1024x8, .f32⟩
  | 36 => ⟨S_, .i32⟩
  | 37 => ⟨S1024x1, .i32⟩
  | 38 => ⟨S1024x1, .i1⟩
  | 39 => ⟨S_, .i32⟩
  | 40 => ⟨S1024x1, .i32⟩
  | 41 => ⟨S1024x1, .i32⟩
  | 42 => ⟨S1024x1, .i32⟩
  | 43 => ⟨S_, .i32⟩
  | 44 => ⟨S1024x2, .i32⟩
  | 45 => ⟨S1024x2, .i1⟩
  | 46 => ⟨S_, .i32⟩
  | 47 => ⟨S1024x2, .i32⟩
  | 48 => ⟨S1024x2, .i32⟩
  | 49 => ⟨S1024x2, .i32⟩
  | 50 => ⟨S1024x2, .i32⟩
  | 51 => ⟨S1024x2x1, .i32⟩
  | 52 => ⟨S1024x2x1, .i32⟩
  | 53 => ⟨S1024x2x2, .i32⟩
  | 54 => ⟨S1024x8, .f32⟩
  | 55 => ⟨S_, .f32⟩
  | 56 => ⟨S1024x3136, .f32⟩
  | 57 => ⟨S1x256x20, .f32⟩
  | 58 => ⟨S256x20, .f32⟩
  | 59 => ⟨S1024x20, .f32⟩
  | 60 => ⟨S1x20, .f32⟩
  | 61 => ⟨S20, .f32⟩
  | 62 => ⟨S1x20, .f32⟩
  | 63 => ⟨S1024x20, .f32⟩
  | 64 => ⟨S1024x20, .f32⟩
  | 65 => ⟨S_, .f32⟩
  | 66 => ⟨S1024x20, .f32⟩
  | 67 => ⟨S1024x20, .f32⟩
  | 68 => ⟨S1024x1, .f32⟩
  | 69 => ⟨S1024x20, .f32⟩
  | 70 => ⟨S1024x20, .f32⟩
  | 71 => ⟨S1x20x3136, .f32⟩
  | 72 => ⟨S20x3136, .f32⟩
  | 73 => ⟨S1024x3136, .f32⟩
  | 74 => ⟨S1024x3136, .f32⟩
  | 75 => ⟨S1x3136, .f32⟩
  | 76 => ⟨S3136, .f32⟩
  | 77 => ⟨S1x3136, .f32⟩
  | 78 => ⟨S1024x3136, .f32⟩
  | 79 => ⟨S1024x3136, .f32⟩
  | 80 => ⟨S1024x3136, .f32⟩
  | 81 => ⟨S1024x3136, .f32⟩
  | 82 => ⟨S1x256x20, .f32⟩
  | 83 => ⟨S256x20, .f32⟩
  | 84 => ⟨S1024x20, .f32⟩
  | 85 => ⟨S1x20, .f32⟩
  | 86 => ⟨S20, .f32⟩
  | 87 => ⟨S1x20, .f32⟩
  | 88 => ⟨S1024x20, .f32⟩
  | 89 => ⟨S1024x20, .f32⟩
  | 90 => ⟨S_, .f32⟩
  | 91 => ⟨S1024x20, .f32⟩
  | 92 => ⟨S1024x20, .f32⟩
  | 93 => ⟨S1024x1, .f32⟩
  | 94 => ⟨S1024x20, .f32⟩
  | 95 => ⟨S1024x20, .f32⟩
  | 96 => ⟨S1x20x3136, .f32⟩
  | 97 => ⟨S20x3136, .f32⟩
  | 98 => ⟨S1024x3136, .f32⟩
  | 99 => ⟨S1024x3136, .f32⟩
  | 100 => ⟨S1x3136, .f32⟩
  | 101 => ⟨S3136, .f32⟩
  | 102 => ⟨S1x3136, .f32⟩
  | 103 => ⟨S1024x3136, .f32⟩
  | 104 => ⟨S1024x3136, .f32⟩
  | 105 => ⟨S1024x3136, .f32⟩
  | 106 => ⟨S1024x3136, .f32⟩
  | 107 => ⟨S1x256x20, .f32⟩
  | 108 => ⟨S256x20, .f32⟩
  | 109 => ⟨S1024x20, .f32⟩
  | 110 => ⟨S1x20, .f32⟩
  | 111 => ⟨S20, .f32⟩
  | 112 => ⟨S1x20, .f32⟩
  | 113 => ⟨S1024x20, .f32⟩
  | 114 => ⟨S1024x20, .f32⟩
  | 115 => ⟨S_, .f32⟩
  | 116 => ⟨S1024x20, .f32⟩
  | 117 => ⟨S1024x20, .f32⟩
  | 118 => ⟨S1024x1, .f32⟩
  | 119 => ⟨S1024x20, .f32⟩
  | 120 => ⟨S1024x20, .f32⟩
  | 121 => ⟨S1x20x3136, .f32⟩
  | 122 => ⟨S20x3136, .f32⟩
  | 123 => ⟨S1024x3136, .f32⟩
  | 124 => ⟨S1024x3136, .f32⟩
  | 125 => ⟨S1x3136, .f32⟩
  | 126 => ⟨S3136, .f32⟩
  | 127 => ⟨S1x3136, .f32⟩
  | _ => ⟨S1024x256, .f32⟩

abbrev hbmTy0_1 (i : Nat) : BufTy := match i % 128 with
  | 0 => ⟨S1024x3136, .f32⟩
  | 1 => ⟨S1024x3136, .f32⟩
  | 2 => ⟨S1024x3136, .f32⟩
  | 3 => ⟨S1024x3136, .f32⟩
  | 4 => ⟨S1x256x20, .f32⟩
  | 5 => ⟨S256x20, .f32⟩
  | 6 => ⟨S1024x20, .f32⟩
  | 7 => ⟨S1x20, .f32⟩
  | 8 => ⟨S20, .f32⟩
  | 9 => ⟨S1x20, .f32⟩
  | 10 => ⟨S1024x20, .f32⟩
  | 11 => ⟨S1024x20, .f32⟩
  | 12 => ⟨S_, .f32⟩
  | 13 => ⟨S1024x20, .f32⟩
  | 14 => ⟨S1024x20, .f32⟩
  | 15 => ⟨S1024x1, .f32⟩
  | 16 => ⟨S1024x20, .f32⟩
  | 17 => ⟨S1024x20, .f32⟩
  | 18 => ⟨S1x20x3136, .f32⟩
  | 19 => ⟨S20x3136, .f32⟩
  | 20 => ⟨S1024x3136, .f32⟩
  | 21 => ⟨S1024x3136, .f32⟩
  | 22 => ⟨S1x3136, .f32⟩
  | 23 => ⟨S3136, .f32⟩
  | 24 => ⟨S1x3136, .f32⟩
  | 25 => ⟨S1024x3136, .f32⟩
  | 26 => ⟨S1024x3136, .f32⟩
  | 27 => ⟨S1024x3136, .f32⟩
  | 28 => ⟨S1024x3136, .f32⟩
  | 29 => ⟨S1x256x20, .f32⟩
  | 30 => ⟨S256x20, .f32⟩
  | 31 => ⟨S1024x20, .f32⟩
  | 32 => ⟨S1x20, .f32⟩
  | 33 => ⟨S20, .f32⟩
  | 34 => ⟨S1x20, .f32⟩
  | 35 => ⟨S1024x20, .f32⟩
  | 36 => ⟨S1024x20, .f32⟩
  | 37 => ⟨S_, .f32⟩
  | 38 => ⟨S1024x20, .f32⟩
  | 39 => ⟨S1024x20, .f32⟩
  | 40 => ⟨S1024x1, .f32⟩
  | 41 => ⟨S1024x20, .f32⟩
  | 42 => ⟨S1024x20, .f32⟩
  | 43 => ⟨S1x20x3136, .f32⟩
  | 44 => ⟨S20x3136, .f32⟩
  | 45 => ⟨S1024x3136, .f32⟩
  | 46 => ⟨S1024x3136, .f32⟩
  | 47 => ⟨S1x3136, .f32⟩
  | 48 => ⟨S3136, .f32⟩
  | 49 => ⟨S1x3136, .f32⟩
  | 50 => ⟨S1024x3136, .f32⟩
  | 51 => ⟨S1024x3136, .f32⟩
  | 52 => ⟨S1024x3136, .f32⟩
  | 53 => ⟨S1024x3136, .f32⟩
  | 54 => ⟨S1x256x20, .f32⟩
  | 55 => ⟨S256x20, .f32⟩
  | 56 => ⟨S1024x20, .f32⟩
  | 57 => ⟨S1x20, .f32⟩
  | 58 => ⟨S20, .f32⟩
  | 59 => ⟨S1x20, .f32⟩
  | 60 => ⟨S1024x20, .f32⟩
  | 61 => ⟨S1024x20, .f32⟩
  | 62 => ⟨S_, .f32⟩
  | 63 => ⟨S1024x20, .f32⟩
  | 64 => ⟨S1024x20, .f32⟩
  | 65 => ⟨S1024x1, .f32⟩
  | 66 => ⟨S1024x20, .f32⟩
  | 67 => ⟨S1024x20, .f32⟩
  | 68 => ⟨S1x20x3136, .f32⟩
  | 69 => ⟨S20x3136, .f32⟩
  | 70 => ⟨S1024x3136, .f32⟩
  | 71 => ⟨S1024x3136, .f32⟩
  | 72 => ⟨S1x3136, .f32⟩
  | 73 => ⟨S3136, .f32⟩
  | 74 => ⟨S1x3136, .f32⟩
  | 75 => ⟨S1024x3136, .f32⟩
  | 76 => ⟨S1024x3136, .f32⟩
  | 77 => ⟨S1024x3136, .f32⟩
  | 78 => ⟨S1024x3136, .f32⟩
  | 79 => ⟨S1x256x20, .f32⟩
  | 80 => ⟨S256x20, .f32⟩
  | 81 => ⟨S1024x20, .f32⟩
  | 82 => ⟨S1x20, .f32⟩
  | 83 => ⟨S20, .f32⟩
  | 84 => ⟨S1x20, .f32⟩
  | 85 => ⟨S1024x20, .f32⟩
  | 86 => ⟨S1024x20, .f32⟩
  | 87 => ⟨S_, .f32⟩
  | 88 => ⟨S1024x20, .f32⟩
  | 89 => ⟨S1024x20, .f32⟩
  | 90 => ⟨S1024x1, .f32⟩
  | 91 => ⟨S1024x20, .f32⟩
  | 92 => ⟨S1024x20, .f32⟩
  | 93 => ⟨S1x20x3136, .f32⟩
  | 94 => ⟨S20x3136, .f32⟩
  | 95 => ⟨S1024x3136, .f32⟩
  | 96 => ⟨S1024x3136, .f32⟩
  | 97 => ⟨S1x3136, .f32⟩
  | 98 => ⟨S3136, .f32⟩
  | 99 => ⟨S1x3136, .f32⟩
  | 100 => ⟨S1024x3136, .f32⟩
  | 101 => ⟨S1024x3136, .f32⟩
  | 102 => ⟨S1024x3136, .f32⟩
  | 103 => ⟨S1024x3136, .f32⟩
  | 104 => ⟨S1x256x20, .f32⟩
  | 105 => ⟨S256x20, .f32⟩
  | 106 => ⟨S1024x20, .f32⟩
  | 107 => ⟨S1x20, .f32⟩
  | 108 => ⟨S20, .f32⟩
  | 109 => ⟨S1x20, .f32⟩
  | 110 => ⟨S1024x20, .f32⟩
  | 111 => ⟨S1024x20, .f32⟩
  | 112 => ⟨S_, .f32⟩
  | 113 => ⟨S1024x20, .f32⟩
  | 114 => ⟨S1024x20, .f32⟩
  | 115 => ⟨S1024x1, .f32⟩
  | 116 => ⟨S1024x20, .f32⟩
  | 117 => ⟨S1024x20, .f32⟩
  | 118 => ⟨S1x20x3136, .f32⟩
  | 119 => ⟨S20x3136, .f32⟩
  | 120 => ⟨S1024x3136, .f32⟩
  | 121 => ⟨S1024x3136, .f32⟩
  | 122 => ⟨S1x3136, .f32⟩
  | 123 => ⟨S3136, .f32⟩
  | 124 => ⟨S1x3136, .f32⟩
  | 125 => ⟨S1024x3136, .f32⟩
  | 126 => ⟨S1024x3136, .f32⟩
  | 127 => ⟨S1024x3136, .f32⟩
  | _ => ⟨S1024x256, .f32⟩

abbrev hbmTy0_2 (i : Nat) : BufTy := match i % 128 with
  | 0 => ⟨S1024x3136, .f32⟩
  | 1 => ⟨S1024x8, .f32⟩
  | 2 => ⟨S1024x2, .f32⟩
  | 3 => ⟨S1024x2, .i32⟩
  | 4 => ⟨S_, .f32⟩
  | 5 => ⟨S1024, .f32⟩
  | 6 => ⟨S_, .f32⟩
  | 7 => ⟨S1024, .f32⟩
  | 8 => ⟨S1024, .f32⟩
  | 9 => ⟨S1024x1, .f32⟩
  | 10 => ⟨S1024x2, .f32⟩
  | 11 => ⟨S1024x2, .f32⟩
  | 12 => ⟨S1024x2, .f32⟩
  | 13 => ⟨S_, .f32⟩
  | 14 => ⟨S1024, .f32⟩
  | 15 => ⟨S1024x1, .f32⟩
  | 16 => ⟨S1024x2, .f32⟩
  | 17 => ⟨S1024x2, .f32⟩
  | 18 => ⟨S1024, .i32⟩
  | 19 => ⟨S1024x1, .i32⟩
  | 20 => ⟨S_, .f32⟩
  | 21 => ⟨S1024x8, .f32⟩
  | 22 => ⟨S_, .i32⟩
  | 23 => ⟨S1024x1, .i32⟩
  | 24 => ⟨S1024x1, .i1⟩
  | 25 => ⟨S_, .i32⟩
  | 26 => ⟨S1024x1, .i32⟩
  | 27 => ⟨S1024x1, .i32⟩
  | 28 => ⟨S1024x1, .i32⟩
  | 29 => ⟨S_, .i32⟩
  | 30 => ⟨S1024x2, .i32⟩
  | 31 => ⟨S1024x2, .i1⟩
  | 32 => ⟨S_, .i32⟩
  | 33 => ⟨S1024x2, .i32⟩
  | 34 => ⟨S1024x2, .i32⟩
  | 35 => ⟨S1024x2, .i32⟩
  | 36 => ⟨S1024x2, .i32⟩
  | 37 => ⟨S1024x2x1, .i32⟩
  | 38 => ⟨S1024x2x1, .i32⟩
  | 39 => ⟨S1024x2x2, .i32⟩
  | 40 => ⟨S1024x8, .f32⟩
  | 41 => ⟨S_, .f32⟩
  | 42 => ⟨S1024x93312, .f32⟩
  | 43 => ⟨S1x3136x20, .f32⟩
  | 44 => ⟨S3136x20, .f32⟩
  | 45 => ⟨S1024x20, .f32⟩
  | 46 => ⟨S1x20, .f32⟩
  | 47 => ⟨S20, .f32⟩
  | 48 => ⟨S1x20, .f32⟩
  | 49 => ⟨S1024x20, .f32⟩
  | 50 => ⟨S1024x20, .f32⟩
  | 51 => ⟨S_, .f32⟩
  | 52 => ⟨S1024x20, .f32⟩
  | 53 => ⟨S1024x20, .f32⟩
  | 54 => ⟨S1024x1, .f32⟩
  | 55 => ⟨S1024x20, .f32⟩
  | 56 => ⟨S1024x20, .f32⟩
  | 57 => ⟨S1x20x93312, .f32⟩
  | 58 => ⟨S20x93312, .f32⟩
  | 59 => ⟨S1024x93312, .f32⟩
  | 60 => ⟨S1024x93312, .f32⟩
  | 61 => ⟨S1x93312, .f32⟩
  | 62 => ⟨S93312, .f32⟩
  | 63 => ⟨S1x93312, .f32⟩
  | 64 => ⟨S1024x93312, .f32⟩
  | 65 => ⟨S1024x93312, .f32⟩
  | 66 => ⟨S1024x93312, .f32⟩
  | 67 => ⟨S1024x93312, .f32⟩
  | 68 => ⟨S1x3136x20, .f32⟩
  | 69 => ⟨S3136x20, .f32⟩
  | 70 => ⟨S1024x20, .f32⟩
  | 71 => ⟨S1x20, .f32⟩
  | 72 => ⟨S20, .f32⟩
  | 73 => ⟨S1x20, .f32⟩
  | 74 => ⟨S1024x20, .f32⟩
  | 75 => ⟨S1024x20, .f32⟩
  | 76 => ⟨S_, .f32⟩
  | 77 => ⟨S1024x20, .f32⟩
  | 78 => ⟨S1024x20, .f32⟩
  | 79 => ⟨S1024x1, .f32⟩
  | 80 => ⟨S1024x20, .f32⟩
  | 81 => ⟨S1024x20, .f32⟩
  | 82 => ⟨S1x20x93312, .f32⟩
  | 83 => ⟨S20x93312, .f32⟩
  | 84 => ⟨S1024x93312, .f32⟩
  | 85 => ⟨S1024x93312, .f32⟩
  | 86 => ⟨S1x93312, .f32⟩
  | 87 => ⟨S93312, .f32⟩
  | 88 => ⟨S1x93312, .f32⟩
  | 89 => ⟨S1024x93312, .f32⟩
  | 90 => ⟨S1024x93312, .f32⟩
  | 91 => ⟨S1024x93312, .f32⟩
  | 92 => ⟨S1024x93312, .f32⟩
  | 93 => ⟨S1x3136x20, .f32⟩
  | 94 => ⟨S3136x20, .f32⟩
  | 95 => ⟨S1024x20, .f32⟩
  | 96 => ⟨S1x20, .f32⟩
  | 97 => ⟨S20, .f32⟩
  | 98 => ⟨S1x20, .f32⟩
  | 99 => ⟨S1024x20, .f32⟩
  | 100 => ⟨S1024x20, .f32⟩
  | 101 => ⟨S_, .f32⟩
  | 102 => ⟨S1024x20, .f32⟩
  | 103 => ⟨S1024x20, .f32⟩
  | 104 => ⟨S1024x1, .f32⟩
  | 105 => ⟨S1024x20, .f32⟩
  | 106 => ⟨S1024x20, .f32⟩
  | 107 => ⟨S1x20x93312, .f32⟩
  | 108 => ⟨S20x93312, .f32⟩
  | 109 => ⟨S1024x93312, .f32⟩
  | 110 => ⟨S1024x93312, .f32⟩
  | 111 => ⟨S1x93312, .f32⟩
  | 112 => ⟨S93312, .f32⟩
  | 113 => ⟨S1x93312, .f32⟩
  | 114 => ⟨S1024x93312, .f32⟩
  | 115 => ⟨S1024x93312, .f32⟩
  | 116 => ⟨S1024x93312, .f32⟩
  | 117 => ⟨S1024x93312, .f32⟩
  | 118 => ⟨S1x3136x20, .f32⟩
  | 119 => ⟨S3136x20, .f32⟩
  | 120 => ⟨S1024x20, .f32⟩
  | 121 => ⟨S1x20, .f32⟩
  | 122 => ⟨S20, .f32⟩
  | 123 => ⟨S1x20, .f32⟩
  | 124 => ⟨S1024x20, .f32⟩
  | 125 => ⟨S1024x20, .f32⟩
  | 126 => ⟨S_, .f32⟩
  | 127 => ⟨S1024x20, .f32⟩
  | _ => ⟨S1024x256, .f32⟩

abbrev hbmTy0_3 (i : Nat) : BufTy := match i % 128 with
  | 0 => ⟨S1024x20, .f32⟩
  | 1 => ⟨S1024x1, .f32⟩
  | 2 => ⟨S1024x20, .f32⟩
  | 3 => ⟨S1024x20, .f32⟩
  | 4 => ⟨S1x20x93312, .f32⟩
  | 5 => ⟨S20x93312, .f32⟩
  | 6 => ⟨S1024x93312, .f32⟩
  | 7 => ⟨S1024x93312, .f32⟩
  | 8 => ⟨S1x93312, .f32⟩
  | 9 => ⟨S93312, .f32⟩
  | 10 => ⟨S1x93312, .f32⟩
  | 11 => ⟨S1024x93312, .f32⟩
  | 12 => ⟨S1024x93312, .f32⟩
  | 13 => ⟨S1024x93312, .f32⟩
  | 14 => ⟨S1024x93312, .f32⟩
  | 15 => ⟨S1x3136x20, .f32⟩
  | 16 => ⟨S3136x20, .f32⟩
  | 17 => ⟨S1024x20, .f32⟩
  | 18 => ⟨S1x20, .f32⟩
  | 19 => ⟨S20, .f32⟩
  | 20 => ⟨S1x20, .f32⟩
  | 21 => ⟨S1024x20, .f32⟩
  | 22 => ⟨S1024x20, .f32⟩
  | 23 => ⟨S_, .f32⟩
  | 24 => ⟨S1024x20, .f32⟩
  | 25 => ⟨S1024x20, .f32⟩
  | 26 => ⟨S1024x1, .f32⟩
  | 27 => ⟨S1024x20, .f32⟩
  | 28 => ⟨S1024x20, .f32⟩
  | 29 => ⟨S1x20x93312, .f32⟩
  | 30 => ⟨S20x93312, .f32⟩
  | 31 => ⟨S1024x93312, .f32⟩
  | 32 => ⟨S1024x93312, .f32⟩
  | 33 => ⟨S1x93312, .f32⟩
  | 34 => ⟨S93312, .f32⟩
  | 35 => ⟨S1x93312, .f32⟩
  | 36 => ⟨S1024x93312, .f32⟩
  | 37 => ⟨S1024x93312, .f32⟩
  | 38 => ⟨S1024x93312, .f32⟩
  | 39 => ⟨S1024x93312, .f32⟩
  | 40 => ⟨S1x3136x20, .f32⟩
  | 41 => ⟨S3136x20, .f32⟩
  | 42 => ⟨S1024x20, .f32⟩
  | 43 => ⟨S1x20, .f32⟩
  | 44 => ⟨S20, .f32⟩
  | 45 => ⟨S1x20, .f32⟩
  | 46 => ⟨S1024x20, .f32⟩
  | 47 => ⟨S1024x20, .f32⟩
  | 48 => ⟨S_, .f32⟩
  | 49 => ⟨S1024x20, .f32⟩
  | 50 => ⟨S1024x20, .f32⟩
  | 51 => ⟨S1024x1, .f32⟩
  | 52 => ⟨S1024x20, .f32⟩
  | 53 => ⟨S1024x20, .f32⟩
  | 54 => ⟨S1x20x93312, .f32⟩
  | 55 => ⟨S20x93312, .f32⟩
  | 56 => ⟨S1024x93312, .f32⟩
  | 57 => ⟨S1024x93312, .f32⟩
  | 58 => ⟨S1x93312, .f32⟩
  | 59 => ⟨S93312, .f32⟩
  | 60 => ⟨S1x93312, .f32⟩
  | 61 => ⟨S1024x93312, .f32⟩
  | 62 => ⟨S1024x93312, .f32⟩
  | 63 => ⟨S1024x93312, .f32⟩
  | 64 => ⟨S1024x93312, .f32⟩
  | 65 => ⟨S1x3136x20, .f32⟩
  | 66 => ⟨S3136x20, .f32⟩
  | 67 => ⟨S1024x20, .f32⟩
  | 68 => ⟨S1x20, .f32⟩
  | 69 => ⟨S20, .f32⟩
  | 70 => ⟨S1x20, .f32⟩
  | 71 => ⟨S1024x20, .f32⟩
  | 72 => ⟨S1024x20, .f32⟩
  | 73 => ⟨S_, .f32⟩
  | 74 => ⟨S1024x20, .f32⟩
  | 75 => ⟨S1024x20, .f32⟩
  | 76 => ⟨S1024x1, .f32⟩
  | 77 => ⟨S1024x20, .f32⟩
  | 78 => ⟨S1024x20, .f32⟩
  | 79 => ⟨S1x20x93312, .f32⟩
  | 80 => ⟨S20x93312, .f32⟩
  | 81 => ⟨S1024x93312, .f32⟩
  | 82 => ⟨S1024x93312, .f32⟩
  | 83 => ⟨S1x93312, .f32⟩
  | 84 => ⟨S93312, .f32⟩
  | 85 => ⟨S1x93312, .f32⟩
  | 86 => ⟨S1024x93312, .f32⟩
  | 87 => ⟨S1024x93312, .f32⟩
  | 88 => ⟨S1024x93312, .f32⟩
  | 89 => ⟨S1024x93312, .f32⟩
  | 90 => ⟨S1x3136x20, .f32⟩
  | 91 => ⟨S3136x20, .f32⟩
  | 92 => ⟨S1024x20, .f32⟩
  | 93 => ⟨S1x20, .f32⟩
  | 94 => ⟨S20, .f32⟩
  | 95 => ⟨S1x20, .f32⟩
  | 96 => ⟨S1024x20, .f32⟩
  | 97 => ⟨S1024x20, .f32⟩
  | 98 => ⟨S_, .f32⟩
  | 99 => ⟨S1024x20, .f32⟩
  | 100 => ⟨S1024x20, .f32⟩
  | 101 => ⟨S1024x1, .f32⟩
  | 102 => ⟨S1024x20, .f32⟩
  | 103 => ⟨S1024x20, .f32⟩
  | 104 => ⟨S1x20x93312, .f32⟩
  | 105 => ⟨S20x93312, .f32⟩
  | 106 => ⟨S1024x93312, .f32⟩
  | 107 => ⟨S1024x93312, .f32⟩
  | 108 => ⟨S1x93312, .f32⟩
  | 109 => ⟨S93312, .f32⟩
  | 110 => ⟨S1x93312, .f32⟩
  | 111 => ⟨S1024x93312, .f32⟩
  | 112 => ⟨S1024x93312, .f32⟩
  | 113 => ⟨S1024x93312, .f32⟩
  | 114 => ⟨S1024x93312, .f32⟩
  | 115 => ⟨S1024x128, .f32⟩
  | 116 => ⟨S1x128, .f32⟩
  | 117 => ⟨S1024x128, .f32⟩
  | 118 => ⟨S1024x128, .f32⟩
  | 119 => ⟨S_, .f32⟩
  | 120 => ⟨S1024x128, .f32⟩
  | 121 => ⟨S1024x128, .f32⟩
  | 122 => ⟨S1024x10, .f32⟩
  | 123 => ⟨S1x10, .f32⟩
  | 124 => ⟨S1024x10, .f32⟩
  | 125 => ⟨S1024x10, .f32⟩
  | 126 => ⟨S_, .f32⟩
  | 127 => ⟨S1024, .f32⟩
  | _ => ⟨S1024x256, .f32⟩

abbrev hbmTy0_4 (i : Nat) : BufTy := match i % 128 with
  | 0 => ⟨S_, .f32⟩
  | 1 => ⟨S1024, .f32⟩
  | 2 => ⟨S1024, .f32⟩
  | 3 => ⟨S1024x1, .f32⟩
  | 4 => ⟨S1024x10, .f32⟩
  | 5 => ⟨S1024x10, .f32⟩
  | 6 => ⟨S1024x10, .f32⟩
  | 7 => ⟨S_, .f32⟩
  | 8 => ⟨S1024, .f32⟩
  | 9 => ⟨S1024x1, .f32⟩
  | 10 => ⟨S1024x1, .f32⟩
  | 11 => ⟨S1024x10, .f32⟩
  | 12 => ⟨S1024x10, .f32⟩
  | _ => ⟨S1024x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_values : Ref sig .tc := ⟨.hbm, 16, rfl⟩
abbrev main_indices : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call0_cst : Ref sig .tc := ⟨.hbm, 65, rfl⟩
abbrev main_call0_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call1_cst : Ref sig .tc := ⟨.hbm, 90, rfl⟩
abbrev main_call1_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call2_cst : Ref sig .tc := ⟨.hbm, 115, rfl⟩
abbrev main_call2_v0 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_call3_cst : Ref sig .tc := ⟨.hbm, 140, rfl⟩
abbrev main_call3_v0 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_call4_cst : Ref sig .tc := ⟨.hbm, 165, rfl⟩
abbrev main_call4_v0 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_call5_cst : Ref sig .tc := ⟨.hbm, 190, rfl⟩
abbrev main_call5_v0 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_call6_cst : Ref sig .tc := ⟨.hbm, 215, rfl⟩
abbrev main_call6_v0 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_call7_cst : Ref sig .tc := ⟨.hbm, 240, rfl⟩
abbrev main_call7_v0 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_values_7 : Ref sig .tc := ⟨.hbm, 258, rfl⟩
abbrev main_indices_8 : Ref sig .tc := ⟨.hbm, 259, rfl⟩
abbrev main_cst_9 : Ref sig .tc := ⟨.hbm, 260, rfl⟩
abbrev main_v216 : Ref sig .tc := ⟨.hbm, 261, rfl⟩
abbrev main_cst_10 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_cst_11 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_cst_12 : Ref sig .tc := ⟨.hbm, 276, rfl⟩
abbrev main_v229 : Ref sig .tc := ⟨.hbm, 277, rfl⟩
abbrev main_c_13 : Ref sig .tc := ⟨.hbm, 278, rfl⟩
abbrev main_v230 : Ref sig .tc := ⟨.hbm, 279, rfl⟩
abbrev main_v231 : Ref sig .tc := ⟨.hbm, 280, rfl⟩
abbrev main_c_14 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_c_15 : Ref sig .tc := ⟨.hbm, 285, rfl⟩
abbrev main_v235 : Ref sig .tc := ⟨.hbm, 286, rfl⟩
abbrev main_v236 : Ref sig .tc := ⟨.hbm, 287, rfl⟩
abbrev main_c_16 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_cst_17 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_call8_cst : Ref sig .tc := ⟨.hbm, 307, rfl⟩
abbrev main_call8_v0 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_call9_cst : Ref sig .tc := ⟨.hbm, 332, rfl⟩
abbrev main_call9_v0 : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_v296 : Ref sig .tc := ⟨.hbm, 353, rfl⟩
abbrev main_v297 : Ref sig .tc := ⟨.hbm, 354, rfl⟩
abbrev main_v298 : Ref sig .tc := ⟨.hbm, 355, rfl⟩
abbrev main_v299 : Ref sig .tc := ⟨.hbm, 356, rfl⟩
abbrev main_call10_cst : Ref sig .tc := ⟨.hbm, 357, rfl⟩
abbrev main_call10_v0 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_call11_cst : Ref sig .tc := ⟨.hbm, 382, rfl⟩
abbrev main_call11_v0 : Ref sig .tc := ⟨.hbm, 383, rfl⟩
abbrev main_v323 : Ref sig .tc := ⟨.hbm, 384, rfl⟩
abbrev main_v324 : Ref sig .tc := ⟨.hbm, 385, rfl⟩
abbrev main_v325 : Ref sig .tc := ⟨.hbm, 386, rfl⟩
abbrev main_v326 : Ref sig .tc := ⟨.hbm, 387, rfl⟩
abbrev main_v327 : Ref sig .tc := ⟨.hbm, 388, rfl⟩
abbrev main_v328 : Ref sig .tc := ⟨.hbm, 389, rfl⟩
abbrev main_v329 : Ref sig .tc := ⟨.hbm, 390, rfl⟩
abbrev main_v330 : Ref sig .tc := ⟨.hbm, 391, rfl⟩
abbrev main_v331 : Ref sig .tc := ⟨.hbm, 392, rfl⟩
abbrev main_v332 : Ref sig .tc := ⟨.hbm, 393, rfl⟩
abbrev main_v333 : Ref sig .tc := ⟨.hbm, 394, rfl⟩
abbrev main_v334 : Ref sig .tc := ⟨.hbm, 395, rfl⟩
abbrev main_v335 : Ref sig .tc := ⟨.hbm, 396, rfl⟩
abbrev main_v336 : Ref sig .tc := ⟨.hbm, 397, rfl⟩
abbrev main_v337 : Ref sig .tc := ⟨.hbm, 398, rfl⟩
abbrev main_v338 : Ref sig .tc := ⟨.hbm, 399, rfl⟩
abbrev main_v339 : Ref sig .tc := ⟨.hbm, 400, rfl⟩
abbrev main_v340 : Ref sig .tc := ⟨.hbm, 401, rfl⟩
abbrev main_v341 : Ref sig .tc := ⟨.hbm, 402, rfl⟩
abbrev main_v342 : Ref sig .tc := ⟨.hbm, 403, rfl⟩
abbrev main_v343 : Ref sig .tc := ⟨.hbm, 404, rfl⟩
abbrev main_v344 : Ref sig .tc := ⟨.hbm, 405, rfl⟩
abbrev main_v345 : Ref sig .tc := ⟨.hbm, 406, rfl⟩
abbrev main_call12_cst : Ref sig .tc := ⟨.hbm, 407, rfl⟩
abbrev main_call12_v0 : Ref sig .tc := ⟨.hbm, 408, rfl⟩
abbrev main_v346 : Ref sig .tc := ⟨.hbm, 409, rfl⟩
abbrev main_v347 : Ref sig .tc := ⟨.hbm, 410, rfl⟩
abbrev main_v348 : Ref sig .tc := ⟨.hbm, 411, rfl⟩
abbrev main_v349 : Ref sig .tc := ⟨.hbm, 412, rfl⟩
abbrev main_v350 : Ref sig .tc := ⟨.hbm, 413, rfl⟩
abbrev main_v351 : Ref sig .tc := ⟨.hbm, 414, rfl⟩
abbrev main_v352 : Ref sig .tc := ⟨.hbm, 415, rfl⟩
abbrev main_v353 : Ref sig .tc := ⟨.hbm, 416, rfl⟩
abbrev main_v354 : Ref sig .tc := ⟨.hbm, 417, rfl⟩
abbrev main_v355 : Ref sig .tc := ⟨.hbm, 418, rfl⟩
abbrev main_v356 : Ref sig .tc := ⟨.hbm, 419, rfl⟩
abbrev main_v357 : Ref sig .tc := ⟨.hbm, 420, rfl⟩
abbrev main_v358 : Ref sig .tc := ⟨.hbm, 421, rfl⟩
abbrev main_v359 : Ref sig .tc := ⟨.hbm, 422, rfl⟩
abbrev main_v360 : Ref sig .tc := ⟨.hbm, 423, rfl⟩
abbrev main_v361 : Ref sig .tc := ⟨.hbm, 424, rfl⟩
abbrev main_v362 : Ref sig .tc := ⟨.hbm, 425, rfl⟩
abbrev main_v363 : Ref sig .tc := ⟨.hbm, 426, rfl⟩
abbrev main_v364 : Ref sig .tc := ⟨.hbm, 427, rfl⟩
abbrev main_v365 : Ref sig .tc := ⟨.hbm, 428, rfl⟩
abbrev main_v366 : Ref sig .tc := ⟨.hbm, 429, rfl⟩
abbrev main_v367 : Ref sig .tc := ⟨.hbm, 430, rfl⟩
abbrev main_v368 : Ref sig .tc := ⟨.hbm, 431, rfl⟩
abbrev main_call13_cst : Ref sig .tc := ⟨.hbm, 432, rfl⟩
abbrev main_call13_v0 : Ref sig .tc := ⟨.hbm, 433, rfl⟩
abbrev main_v369 : Ref sig .tc := ⟨.hbm, 434, rfl⟩
abbrev main_v370 : Ref sig .tc := ⟨.hbm, 435, rfl⟩
abbrev main_v371 : Ref sig .tc := ⟨.hbm, 436, rfl⟩
abbrev main_v372 : Ref sig .tc := ⟨.hbm, 437, rfl⟩
abbrev main_v373 : Ref sig .tc := ⟨.hbm, 438, rfl⟩
abbrev main_v374 : Ref sig .tc := ⟨.hbm, 439, rfl⟩
abbrev main_v375 : Ref sig .tc := ⟨.hbm, 440, rfl⟩
abbrev main_v376 : Ref sig .tc := ⟨.hbm, 441, rfl⟩
abbrev main_v377 : Ref sig .tc := ⟨.hbm, 442, rfl⟩
abbrev main_v378 : Ref sig .tc := ⟨.hbm, 443, rfl⟩
abbrev main_v379 : Ref sig .tc := ⟨.hbm, 444, rfl⟩
abbrev main_v380 : Ref sig .tc := ⟨.hbm, 445, rfl⟩
abbrev main_v381 : Ref sig .tc := ⟨.hbm, 446, rfl⟩
abbrev main_v382 : Ref sig .tc := ⟨.hbm, 447, rfl⟩
abbrev main_v383 : Ref sig .tc := ⟨.hbm, 448, rfl⟩
abbrev main_v384 : Ref sig .tc := ⟨.hbm, 449, rfl⟩
abbrev main_v385 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_v390 : Ref sig .tc := ⟨.hbm, 455, rfl⟩
abbrev main_v391 : Ref sig .tc := ⟨.hbm, 456, rfl⟩
abbrev main_call14_cst : Ref sig .tc := ⟨.hbm, 457, rfl⟩
abbrev main_call14_v0 : Ref sig .tc := ⟨.hbm, 458, rfl⟩
abbrev main_v392 : Ref sig .tc := ⟨.hbm, 459, rfl⟩
abbrev main_v393 : Ref sig .tc := ⟨.hbm, 460, rfl⟩
abbrev main_v394 : Ref sig .tc := ⟨.hbm, 461, rfl⟩
abbrev main_v395 : Ref sig .tc := ⟨.hbm, 462, rfl⟩
abbrev main_v396 : Ref sig .tc := ⟨.hbm, 463, rfl⟩
abbrev main_v397 : Ref sig .tc := ⟨.hbm, 464, rfl⟩
abbrev main_v398 : Ref sig .tc := ⟨.hbm, 465, rfl⟩
abbrev main_v399 : Ref sig .tc := ⟨.hbm, 466, rfl⟩
abbrev main_v400 : Ref sig .tc := ⟨.hbm, 467, rfl⟩
abbrev main_v401 : Ref sig .tc := ⟨.hbm, 468, rfl⟩
abbrev main_v402 : Ref sig .tc := ⟨.hbm, 469, rfl⟩
abbrev main_v403 : Ref sig .tc := ⟨.hbm, 470, rfl⟩
abbrev main_v404 : Ref sig .tc := ⟨.hbm, 471, rfl⟩
abbrev main_v405 : Ref sig .tc := ⟨.hbm, 472, rfl⟩
abbrev main_v406 : Ref sig .tc := ⟨.hbm, 473, rfl⟩
abbrev main_v407 : Ref sig .tc := ⟨.hbm, 474, rfl⟩
abbrev main_v408 : Ref sig .tc := ⟨.hbm, 475, rfl⟩
abbrev main_v409 : Ref sig .tc := ⟨.hbm, 476, rfl⟩
abbrev main_v410 : Ref sig .tc := ⟨.hbm, 477, rfl⟩
abbrev main_v411 : Ref sig .tc := ⟨.hbm, 478, rfl⟩
abbrev main_v412 : Ref sig .tc := ⟨.hbm, 479, rfl⟩
abbrev main_v413 : Ref sig .tc := ⟨.hbm, 480, rfl⟩
abbrev main_v414 : Ref sig .tc := ⟨.hbm, 481, rfl⟩
abbrev main_call15_cst : Ref sig .tc := ⟨.hbm, 482, rfl⟩
abbrev main_call15_v0 : Ref sig .tc := ⟨.hbm, 483, rfl⟩
abbrev main_v415 : Ref sig .tc := ⟨.hbm, 484, rfl⟩
abbrev main_v416 : Ref sig .tc := ⟨.hbm, 485, rfl⟩
abbrev main_v417 : Ref sig .tc := ⟨.hbm, 486, rfl⟩
abbrev main_v418 : Ref sig .tc := ⟨.hbm, 487, rfl⟩
abbrev main_v419 : Ref sig .tc := ⟨.hbm, 488, rfl⟩
abbrev main_v420 : Ref sig .tc := ⟨.hbm, 489, rfl⟩
abbrev main_v421 : Ref sig .tc := ⟨.hbm, 490, rfl⟩
abbrev main_v422 : Ref sig .tc := ⟨.hbm, 491, rfl⟩
abbrev main_v423 : Ref sig .tc := ⟨.hbm, 492, rfl⟩
abbrev main_v424 : Ref sig .tc := ⟨.hbm, 493, rfl⟩
abbrev main_v425 : Ref sig .tc := ⟨.hbm, 494, rfl⟩
abbrev main_v426 : Ref sig .tc := ⟨.hbm, 495, rfl⟩
abbrev main_v427 : Ref sig .tc := ⟨.hbm, 496, rfl⟩
abbrev main_v428 : Ref sig .tc := ⟨.hbm, 497, rfl⟩
abbrev main_v429 : Ref sig .tc := ⟨.hbm, 498, rfl⟩
abbrev main_v430 : Ref sig .tc := ⟨.hbm, 499, rfl⟩
abbrev main_v431 : Ref sig .tc := ⟨.hbm, 500, rfl⟩
abbrev main_v432 : Ref sig .tc := ⟨.hbm, 501, rfl⟩
abbrev main_v433 : Ref sig .tc := ⟨.hbm, 502, rfl⟩
abbrev main_call16_cst : Ref sig .tc := ⟨.hbm, 503, rfl⟩
abbrev main_call16_v0 : Ref sig .tc := ⟨.hbm, 504, rfl⟩
abbrev main_v434 : Ref sig .tc := ⟨.hbm, 505, rfl⟩
abbrev main_v435 : Ref sig .tc := ⟨.hbm, 506, rfl⟩
abbrev main_v436 : Ref sig .tc := ⟨.hbm, 507, rfl⟩
abbrev main_v437 : Ref sig .tc := ⟨.hbm, 508, rfl⟩
abbrev main_v438 : Ref sig .tc := ⟨.hbm, 509, rfl⟩
abbrev main_call17_cst : Ref sig .tc := ⟨.hbm, 510, rfl⟩
abbrev main_call17_v0 : Ref sig .tc := ⟨.hbm, 511, rfl⟩
abbrev main_call17_cst_0 : Ref sig .tc := ⟨.hbm, 512, rfl⟩
abbrev main_call17_v1 : Ref sig .tc := ⟨.hbm, 513, rfl⟩
abbrev main_call17_v2 : Ref sig .tc := ⟨.hbm, 514, rfl⟩
abbrev main_call17_v3 : Ref sig .tc := ⟨.hbm, 515, rfl⟩
abbrev main_call17_v4 : Ref sig .tc := ⟨.hbm, 516, rfl⟩
abbrev main_call17_v5 : Ref sig .tc := ⟨.hbm, 517, rfl⟩
abbrev main_call17_v6 : Ref sig .tc := ⟨.hbm, 518, rfl⟩
abbrev main_call17_cst_1 : Ref sig .tc := ⟨.hbm, 519, rfl⟩
abbrev main_call17_v7 : Ref sig .tc := ⟨.hbm, 520, rfl⟩
abbrev main_call17_v8 : Ref sig .tc := ⟨.hbm, 521, rfl⟩
abbrev main_call17_v9 : Ref sig .tc := ⟨.hbm, 522, rfl⟩
abbrev main_call17_v10 : Ref sig .tc := ⟨.hbm, 523, rfl⟩
abbrev main_v439 : Ref sig .tc := ⟨.hbm, 524, rfl⟩

abbrev nD : Nat := 1
abbrev τ : Topo := Topo.v7x

variable {F : FTy → Type} [FloatOps F]
-- ==== Proof.Precompute.lean ====
module
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.VecWindow

/-!
# What the precompute call computes

The closed forms of the precompute call's two results, and the facts about reading a slot of a
double buffer back that lead to them.
-/

@[expose] public section
set_option maxRecDepth 16384
noncomputable section
namespace Cert.KernelIdeal.Precompute
open Cert.KernelIdeal Cert.KernelIdeal.Gen
open Idealize.ShloMosaic Idealize.ShloMosaic.TcCoe
variable {F : FTy → Type} [FloatOps F]

/-! ## A slot of a double buffer read back -/

section Slots
variable {Val : EltTy → Type} {κ : Kind} {sp : Space} {s s' : Shape} {e : EltTy}

/-- A slot read back after it has been filled is what filled it. -/
theorem slot_hit (M : Memref sig κ sp s e) (r : Rect s) (hr : ∀ a, r.stride a = 1) (hq : r.shape.Squeezes s')
    (hc : r.shape.ShapeCasts s') (f : M.view.ty.Contents Val) (d : s'.Idx → Val e) :
    shapeCast s' (M.view.readAt Val r.toLoadRect (((M.slice r hr).squeeze s' hq).view.write Val f d Finset.univ)) hc = d :=
  (Memref.read_squeeze_slice M r hr hq hc _).symm.trans (View.read_write_univ _ _)

/-- Filling one slot leaves what another slot reads. -/
theorem slot_other (M : Memref sig κ sp s e) (off off' size : Fin s.rank → Nat) (inb inb') (a : Fin s.rank)
    (h1 : size a = 1) (hne : off a ≠ off' a)
    (hr' : ∀ a, (Rect.unit (s := s) off' size inb').stride a = 1) (hq : (Rect.unit (s := s) off' size inb').shape.Squeezes s')
    (f : M.view.ty.Contents Val) (d : s'.Idx → Val e) :
    M.view.readAt Val (Rect.unit off size inb).toLoadRect
        (((M.slice (Rect.unit off' size inb') hr').squeeze s' hq).view.write Val f d Finset.univ)
      = M.view.readAt Val (Rect.unit off size inb).toLoadRect f := by
  refine View.readAt_congr fun i hi => View.write_of_not_mem _ _ _ fun hi' => ?_
  have hi2 : i ∈ ((M.slice (Rect.unit off' size inb') hr').squeeze s' hq).view.set := hi'
  rw [Memref.set_view_squeeze] at hi2
  change i ∈ (M.view.slice (Rect.unit off' size inb')).set at hi2
  rw [View.set_slice] at hi2
  obtain ⟨y, hy, rfl⟩ := Finset.mem_map.mp hi2
  obtain ⟨x, hx, hxy⟩ := Finset.mem_map.mp hi
  have hxy : x = y := M.view.emb.injective hxy
  subst hxy
  obtain ⟨p, rfl⟩ := (Rect.unit off size inb).toLoadRect.exists_idx_of_mem hx
  obtain ⟨q, hq'⟩ := (Rect.unit off' size inb').exists_idx_of_mem hy
  have hv := congrArg (fun z => (z a : Nat)) hq'
  have hp : (p a : Nat) < size a := (p a).isLt
  have hqa : (q a : Nat) < size a := (q a).isLt
  have e1 : (((Rect.unit off size inb).toLoadRect.idx p) a : Nat) = off a + 1 * (p a : Nat) := rfl
  have e2 : (((Rect.unit off' size inb').idx q) a : Nat) = off' a + 1 * (q a : Nat) := rfl
  simp only [e1, e2] at hv
  omega

/-- A slot read back after it and then another slot have been filled is what filled it. -/
theorem slot_hit_other (M : Memref sig κ sp s e) (off off' size : Fin s.rank → Nat) (inb inb') (a : Fin s.rank)
    (h1 : size a = 1) (hne : off a ≠ off' a)
    (hr : ∀ a, (Rect.unit (s := s) off size inb).stride a = 1) (hq : (Rect.unit (s := s) off size inb).shape.Squeezes s')
    (hr' : ∀ a, (Rect.unit (s := s) off' size inb').stride a = 1) (hq' : (Rect.unit (s := s) off' size inb').shape.Squeezes s')
    (hc : (Rect.unit (s := s) off size inb).shape.ShapeCasts s') (f : M.view.ty.Contents Val) (d d' : s'.Idx → Val e) :
    shapeCast s' (M.view.readAt Val (Rect.unit off size inb).toLoadRect
        (((M.slice (Rect.unit off' size inb') hr').squeeze s' hq').view.write Val
          (((M.slice (Rect.unit off size inb) hr).squeeze s' hq).view.write Val f d Finset.univ) d' Finset.univ)) hc = d := by
  rw [slot_other M off off' size inb inb' a h1 hne hr' hq']
  exact slot_hit M _ hr hq hc f d

end Slots

/-! ## The results -/

/-- The head's first weights, rounded to bf16. -/
def headBf16 (w : S93312x128.Idx → Elt F .f32) : FVec F S93312x128 .bf16 :=
  truncf .bf16 (show FVec F S93312x128 .f32 from w) bitsLt_bf16_f32

/-- One expert's slab of the second layer's weights. -/
def slab (b : S8x20x93312.Idx → Elt F .f32) (e : Fin 8) : FVec F S20x93312 .f32 :=
  fun i => b (Fin.cons e i)

/-- One expert's slab read out of the whole array. -/
theorem slab_read (e : Fin 8) (inb : ∀ a, ![e.val, 0, 0] a + S1x20x93312.size a ≤ S8x20x93312.size a) (hr) (hq)
    (b : S8x20x93312.Idx → Elt F .f32) :
    View.read (Elt F) (((Memref.whole main_arg9).slice (Rect.unit ![e.val, 0, 0] S1x20x93312.size inb) hr).squeeze S20x93312 hq).view b
      = slab b e := by
  refine (Memref.read_squeeze_slice (Memref.whole main_arg9) _ hr hq shapeCasts_S1x20x93312_S20x93312 b).trans ?_
  funext i
  refine (shapeCast_dropUnit_apply ![20, 93312] _ _ i).trans ?_
  refine congrArg b (funext fun a => Fin.ext ?_)
  match a with
  | ⟨0, _⟩ => show e.val + 1 * 0 = e.val; omega
  | ⟨1, _⟩ => show 0 + 1 * (i 0 : Nat) = (i 0 : Nat); omega
  | ⟨2, _⟩ => show 0 + 1 * (i 1 : Nat) = (i 1 : Nat); omega

/-- One expert's slab times the head's first weights, both rounded to bf16. -/
def slabHead (b : S8x20x93312.Idx → Elt F .f32) (w : S93312x128.Idx → Elt F .f32) (e : Fin 8) : FVec F S20x128 .f32 :=
  matmul dot_S20x93312_S93312x128_S20x128_1_0_0_1_n_n none (truncf .bf16 (slab b e) bitsLt_bf16_f32) (headBf16 w)
    (constant S20x128 .f32 0x00000000#32)

/-- The first result: every expert's slab times the head's first weights. -/
def m2 (b : S8x20x93312.Idx → Elt F .f32) (w : S93312x128.Idx → Elt F .f32) : S8x20x128.Idx → Elt F .f32 :=
  fun i => slabHead b w (i 0) (fun a => i a.succ)

/-- The second result: the second layer's biases times the head's first weights. -/
def v2 (b : S8x93312.Idx → Elt F .f32) (w : S93312x128.Idx → Elt F .f32) : S8x128.Idx → Elt F .f32 :=
  k0_pay35 b (headBf16 w)

/-! ## The stores, piece by piece -/

/-- A piece more. -/
theorem pieces_cons {s : Shape} {e : EltTy} (G : s.Idx → Elt F e) (p : View.Piece (Elt F) s e) (L : List (View.Piece (Elt F) s e))
    (h : ∀ x : p.1.shape.Idx, p.2 x = G (p.1.emb x)) (hL : ∀ q ∈ L, ∀ x : q.1.shape.Idx, q.2 x = G (q.1.emb x)) :
    ∀ q ∈ p :: L, ∀ x : q.1.shape.Idx, q.2 x = G (q.1.emb x) := by
  intro q hq
  rcases List.mem_cons.mp hq with rfl | hq
  · exact h
  · exact hL q hq

/-- A chunk of rows, rounded and stored, is those rows of the rounded weights. -/
theorem chunk_stored (off : Fin 2 → Nat) (inb : ∀ a, off a + S3456x128.size a ≤ S93312x128.size a)
    (w : S93312x128.Idx → Elt F .f32) (v : Vec F S1x3456x128 .f32)
    (hv : shapeCast S3456x128 v shapeCasts_S1x3456x128_S3456x128 = fun x => w ((Rect.unit (s := S93312x128) off S3456x128.size inb).emb x))
    (x : (Rect.unit (s := S93312x128) off S3456x128.size inb).shape.Idx) :
    k0_pay3 v x = headBf16 w ((Rect.unit (s := S93312x128) off S3456x128.size inb).emb x) := by
  unfold k0_pay3
  rw [shapeCast_self, hv]
  rfl

/-- One expert's product, stored as a slab, is that slab of the first result. -/
theorem slab_stored (e : Fin 8) (inb : ∀ a, ![e.val, 0, 0] a + S1x20x128.size a ≤ S8x20x128.size a)
    (b : S8x20x93312.Idx → Elt F .f32) (w : S93312x128.Idx → Elt F .f32) (v : Vec F S1x20x93312 .f32) (u : Vec F S93312x128 .bf16)
    (hv : shapeCast S20x93312 v shapeCasts_S1x20x93312_S20x93312 = slab b e) (hu : u = headBf16 w)
    (x : (Rect.unit (s := S8x20x128) ![e.val, 0, 0] S1x20x128.size inb).shape.Idx) :
    k0_pay36 v u x = m2 b w ((Rect.unit (s := S8x20x128) ![e.val, 0, 0] S1x20x128.size inb).emb x) := by
  unfold k0_pay36
  rw [hv, hu]
  refine (shapeCast_addUnit_apply ![20, 128] _ _ x).trans ?_
  have h0 : (x 0 : Nat) = 0 := Nat.lt_one_iff.mp (x 0).isLt
  have e0 : ((Rect.unit (s := S8x20x128) ![e.val, 0, 0] S1x20x128.size inb).emb x) 0 = e :=
    Fin.ext (by show e.val + 1 * (x 0 : Nat) = e.val; omega)
  unfold m2
  rw [e0]
  refine congrArg (slabHead b w e) (funext fun a => Fin.ext ?_)
  match a with
  | ⟨0, _⟩ => show (x 1 : Nat) = 0 + 1 * (x 1 : Nat); omega
  | ⟨1, _⟩ => show (x 2 : Nat) = 0 + 1 * (x 2 : Nat); omega

/-- A whole buffer read back after stores that cover it is the array every store stores a piece of. -/
theorem read_back {κ : Kind} {sp : Space} {s : Shape} {e : EltTy} (v : View sig κ sp s e) (L : List (View.Piece (Elt F) s e))
    (G : s.Idx → Elt F e) (off : Fin s.rank → Nat) (inb : ∀ a, off a + s.size a ≤ s.size a)
    (hcov : ∀ y, ∃ p ∈ L, y ∈ p.1.set) (hG : ∀ q ∈ L, ∀ x : q.1.shape.Idx, q.2 x = G (q.1.emb x)) :
    v.readCov L (Rect.unit off s.size inb).toLoadRect = G := by
  rw [View.readCov_eq_canon']
  funext j
  rw [show (Rect.unit off s.size inb).toLoadRect.idx j = j from Rect.emb_unit_full inb j]
  exact View.canon_apply_of_pieces G L hG j (hcov j)

end Cert.KernelIdeal.Precompute
end
-- ==== Proof.PrecomputeRun.lean ====
module
public import proofs.«01_k».proof.Proof.Gen.KernelIdeal.Launch
public import proofs.«01_k».proof.Proof.Gen.KernelIdeal.Skeleton
public import proofs.«01_k».proof.Proof.Gen.KernelIdeal.Points
public import proofs.«01_k».proof.Proof.Precompute
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

/-!
# One run of the precompute call's body

The body, run on whole buffers, leaves the two results of the closed forms, the operands as they were and every
transfer counter at zero.
-/

@[expose] public section
set_option maxRecDepth 16384
noncomputable section
namespace Cert.KernelIdeal.Precompute
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)
abbrev hbM0_0 : Memref sig .tc .hbm S8x20x93312 .f32 := Memref.whole main_arg9
abbrev hbM0_1 : Memref sig .tc .hbm S8x93312 .f32 := Memref.whole main_arg10
abbrev hbM0_2 : Memref sig .tc .hbm S93312x128 .f32 := Memref.whole main_arg11
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

-- (the run's proof term is large: checking it walks past the default budget)
set_option maxHeartbeats 2680000 in set_option sl_exec.dmaWindow true in set_option sl_exec.dmaWindowSet true in
/-- The body on whole buffers: from any contents of the results and of the scratch, the transfer counters at zero and
    the three operands held, it runs to its end with the results at `m2` and `v2` of the operands, the operands and
    the counters as they were. -/
theorem body_runs (c : Dev nD) (arg3 : Memref sig .tc .vmem S8x20x128 .f32) (harg3 : arg3.IsWhole) (arg4 : Memref sig .tc .vmem S8x128 .f32) (harg4 : arg4.IsWhole) (arg5 : Memref sig .tc .vmem S93312x128 .bf16) (harg5 : arg5.IsWhole) (arg6 : Memref sig .tc .vmem S2x3456x128 .f32) (harg6 : arg6.IsWhole) (arg7 : Memref sig .tc .vmem S2x20x93312 .f32) (harg7 : arg7.IsWhole) (arg8 : Memref sig .tc .vmem S8x93312 .f32) (harg8 : arg8.IsWhole)
     (fh0 : HbBuf0 (F := F) c hbM0_0) (fh1 : HbBuf0 (F := F) c hbM0_1) (fh2 : HbBuf0 (F := F) c hbM0_2) :
      ∀ (W : Waits sig Unit) (K : PUnit → sProp 𝕄),
        iprop((∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ hbPt0 c hbM0_0 fh0 ∗ hbPt0 c hbM0_1 fh1 ∗ hbPt0 c hbM0_2 fh2 ∗ owes (c : Thread nD τ) 0 W
            ∗ (iprop(owns (c : Thread nD τ) arg3 fullShare (m2 fh0 fh2) ∗ owns (c : Thread nD τ) arg4 fullShare (v2 fh1 fh2) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0__precompute_kernel (Memref.whole main_arg9) (Memref.isWhole_whole _) (Memref.whole main_arg10) (Memref.isWhole_whole _) (Memref.whole main_arg11) (Memref.isWhole_whole _) arg3 harg3 arg4 harg4 arg5 harg5 arg6 harg6 arg7 harg7 arg8 harg8 cc0_scratch4 cc0_scratch5 cc0_scratch6) K := by
    intro W K
    simp only [cc0__precompute_kernel_eq_skeleton]; unfold cc0__precompute_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%d0, %f0, -, H0⟩, ⟨%d1, %f1, -, H1⟩, ⟨%ds0, %fs0, -, HS0⟩, ⟨%ds1, %fs1, -, HS1⟩, ⟨%ds2, %fs2, -, HS2⟩, ⟨%ds3, %fs3, -, HS3⟩, Hq0, Hq1, Hq2, Hq3, Hq4, Hh0, Hh1, Hh2, HW, Hk⟩
    sl_exec
    have hw : body_runs.sl.v446 c arg5 arg6 fh2 fs1 = headBf16 fh2 := by
      refine read_back _ _ _ _ _ ?_ ?_
      · exact View.cover_of_tiled (s := S93312x128) _ ![3456, 128] (by rfl)
      unfold body_runs.sl.HS0_27
      refine pieces_cons _ _ _ (chunk_stored _ (by decide) _ _ (slot_hit _ _ _ _ _ _ _)) ?_
      iterate 26
        refine pieces_cons _ _ _ (chunk_stored _ (by decide) _ _ (slot_hit_other _ _ _ _ _ _ 0 rfl (by decide) _ _ _ _ _ _ _ _)) ?_
      exact fun _ h => absurd h List.not_mem_nil
    have hb : body_runs.sl.v444 c arg8 fh1 = fh1 := by
      refine read_back _ _ _ _ _ ?_ ?_
      · exact View.cover_of_tiled (s := S8x93312) _ ![8, 93312] (by rfl)
      refine pieces_cons _ _ _ (fun x => ?_) fun _ h => absurd h List.not_mem_nil
      have hx : (Rect.whole S8x93312).emb x = x := funext fun a => Fin.ext (by
        show 0 + 1 * (x a : Nat) = x a
        omega)
      exact congrArg fh1 hx.symm
    sl_step
    iapply Hk
    isplitl [H0]
    · iexists _; isplitr; swap; · iexact H0
      ipureintro
      funext y
      refine View.read_writes_apply_of_pieces _ _ (m2 fh0 fh2) _ ?_ y ?_; swap
      · exact View.cover_of_tiled (s := S8x20x128) _ ![1, 20, 128] (by rfl) y
      refine pieces_cons _ _ _ (slab_stored 7 (by decide) _ _ _ _ (Eq.trans (slot_hit _ _ _ _ _ _ _) (slab_read 7 (by decide) _ _ fh0)) hw) ?_
      refine pieces_cons _ _ _ (slab_stored 6 (by decide) _ _ _ _ (Eq.trans (slot_hit_other _ _ _ _ _ _ 0 rfl (by decide) _ _ _ _ _ _ _ _) (slab_read 6 (by decide) _ _ fh0)) hw) ?_
      refine pieces_cons _ _ _ (slab_stored 5 (by decide) _ _ _ _ (Eq.trans (slot_hit_other _ _ _ _ _ _ 0 rfl (by decide) _ _ _ _ _ _ _ _) (slab_read 5 (by decide) _ _ fh0)) hw) ?_
      refine pieces_cons _ _ _ (slab_stored 4 (by decide) _ _ _ _ (Eq.trans (slot_hit_other _ _ _ _ _ _ 0 rfl (by decide) _ _ _ _ _ _ _ _) (slab_read 4 (by decide) _ _ fh0)) hw) ?_
      refine pieces_cons _ _ _ (slab_stored 3 (by decide) _ _ _ _ (Eq.trans (slot_hit_other _ _ _ _ _ _ 0 rfl (by decide) _ _ _ _ _ _ _ _) (slab_read 3 (by decide) _ _ fh0)) hw) ?_
      refine pieces_cons _ _ _ (slab_stored 2 (by decide) _ _ _ _ (Eq.trans (slot_hit_other _ _ _ _ _ _ 0 rfl (by decide) _ _ _ _ _ _ _ _) (slab_read 2 (by decide) _ _ fh0)) hw) ?_
      refine pieces_cons _ _ _ (fun x => ?_) ?_
      · unfold body_runs.sl.r_5
        exact slab_stored 1 (by decide) fh0 fh2 (body_runs.sl.v475 c arg7 fh0 fs2) _ (Eq.trans (slot_hit_other _ _ _ _ _ _ 0 rfl (by decide) _ _ _ _ _ _ _ _) (slab_read 1 (by decide) _ _ fh0)) hw x
      refine pieces_cons _ _ _ (slab_stored 0 (by decide) _ _ _ _ (Eq.trans (slot_hit_other _ _ _ _ _ _ 0 rfl (by decide) _ _ _ _ _ _ _ _) (slab_read 0 (by decide) _ _ fh0)) hw) ?_
      exact fun _ h => absurd h List.not_mem_nil
    isplitl [H1]
    · iexists _; isplitr; swap; · iexact H1
      ipureintro
      rw [hw, hb]
      funext y
      refine View.read_writes_apply_of_pieces _ _ (v2 fh1 fh2) _ ?_ y ?_; swap
      · exact View.cover_of_tiled (s := S8x128) _ ![8, 128] (by rfl) y
      refine pieces_cons _ _ _ (fun x => ?_) fun _ h => absurd h List.not_mem_nil
      exact congrArg (v2 fh1 fh2) (Rect.emb_unit_full (s := S8x128) (by decide) x).symm
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    isplitl [Hh2]; · iexact Hh2
    iexists _; iexact HW

end Cert.KernelIdeal.Precompute
end
-- ==== Proof.PrecomputeRegion.lean ====
module
public import proofs.«01_k».proof.Proof.PrecomputeRun
public import Idealize.ShloMosaic.Lib.Pipeline.ValueKit.Geometry

/-!
# The precompute call's pipeline

The proof data of the precompute call's one grid point, its body obligation, and what the two result arrays hold.
-/

@[expose] public section
set_option maxRecDepth 16384
noncomputable section
namespace Cert.KernelIdeal.Precompute
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (V : (c : Dev nD) → (b : Ref sig .tc) → Buf (Elt F) ((c : Thread nD τ).loc b))

/-- The call's own transfer counters. -/
abbrev ownCells : Fin 5 → SemLoc sig := fun j => (![SemLoc.dma 2, SemLoc.dma 3, SemLoc.dma 4, SemLoc.dma 5, SemLoc.dma 6] : Fin 5 → SemLoc sig) j
/-- They are scoped, distinct, and no staging counter. -/
theorem ownCells_facts : Pipeline.OwnSemFacts spec0 ownCells := by decide
/-- The counters at zero, listed. -/
theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0) := by
  rw [Pipeline.ownSems0_eq_of_list c ownCells [0, 1, 2, 3, 4] (by decide) (by decide)]; rfl
/-- The three operands that the call reads from main memory. -/
def operands : Finset (Ref sig .tc) := {main_arg9, main_arg10, main_arg11}
/-- The operands held, listed. -/
theorem operands_eq (c : Dev nD) :
    (bigSep operands (fun b => ((c : Thread nD τ).loc b) ↦{fullShare} V c b) : sProp 𝕄)
      = iprop(hbPt0 c hbM0_0 (V c main_arg9) ∗ hbPt0 c hbM0_1 (V c main_arg10) ∗ hbPt0 c hbM0_2 (V c main_arg11)) := by
  rw [BI.bigSep_eq_bigSepL_of_eq [main_arg9, main_arg10, main_arg11] (by decide) (by decide)]; rfl

/-- The proof data: the two arrays as found; after the body the first window holds `m2`, the second `v2`; the
    invariant holds the scratch, the counters at zero and the operands; nothing is owed. -/
def dat (c : Dev nD) : Dat τ (Elt F) Unit ℕ (Pipeline.UD sig nD τ) ℕ cfg0 c where
  A w := V c (Pipeline.arrRef spec0 w)
  after w t := match w with
    | ⟨0, _⟩ => m2 (V c main_arg9) (V c main_arg11)
    | ⟨1, _⟩ => v2 (V c main_arg10) (V c main_arg11)
    | ⟨_ + 2, h⟩ => absurd h (Nat.not_lt.2 (Nat.le_add_left _ _))
  Φ _ := Pipeline.ΦD ownCells spec0 operands (V) c
  q _ := fullShare
  owed _ := 0

theorem dat_A (c : Dev nD) (w : Fin cfg0.W) : (dat V c).A w = V c (Pipeline.arrRef spec0 w) := by dsimp only [dat]
theorem dat_after0 (c : Dev nD) (t : Fin cfg0.N) : (dat V c).after 0 t = m2 (V c main_arg9) (V c main_arg11) := by dsimp only [dat]
theorem dat_after1 (c : Dev nD) (t : Fin cfg0.N) : (dat V c).after 1 t = v2 (V c main_arg10) (V c main_arg11) := by dsimp only [dat]

/-- What the body is called with, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at the grid's point, by `body_runs`: the invariant supplies the scratch, the counters and the operands. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  rw [show (dat V c).Φ t.succ = (dat V c).Φ t.castSucc from rfl]
  rw [show (dat V c).Φ t.castSucc = Pipeline.ΦD ownCells spec0 operands V c from rfl, Pipeline.ΦD_eq, scopedRest0_eq, ownCells_eq,
    dat_after0, dat_after1]
  generalize hP : (bigSep operands (fun b => ((c : Thread nD τ).loc b) ↦{fullShare} V c b) : sProp 𝕄) = P
  unfold Dat.owesAt Pipeline.owesWithin
  rw [show (dat V c).owed t.castSucc = 0 from rfl, show (dat V c).owed t.succ = 0 from rfl]
  simp only [← owns_whole]
  rw [← hP, operands_eq]
  iintro ⟨⟨⟨HS0, HS1, HS2, HS3, HSr⟩, Hg, ⟨Hq0, Hq1, Hq2, Hq3, Hq4⟩, ⟨Hh0, Hh1, Hh2⟩⟩, ⟨%W, -, HW⟩, ⟨%d0, H0⟩, ⟨%d1, H1⟩⟩
  iapply (body_runs c _ _ _ _ _ _ _ _ _ _ _ _ (V c main_arg9) (V c main_arg10) (V c main_arg11) W _)
  isplitl [H0]; · iexists _; iexact H0
  isplitl [H1]; · iexists _; iexact H1
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [Hh2]; · iexact Hh2
  isplitl [HW]; · iexact HW
  iintro ⟨H0, H1, HS0, HS1, HS2, HS3, Hq0, Hq1, Hq2, Hq3, Hq4, Hh0, Hh1, Hh2, ⟨%W', HW'⟩⟩
  isplitl [HS0 HS1 HS2 HS3 HSr Hg Hq0 Hq1 Hq2 Hq3 Hq4 Hh0 Hh1 Hh2]
  · isplitl [HS0 HS1 HS2 HS3 HSr]
    · isplitl [HS0]; · iexact HS0
      isplitl [HS1]; · iexact HS1
      isplitl [HS2]; · iexact HS2
      isplitl [HS3]; · iexact HS3
      iexact HSr
    isplitl [Hg]
    · iexact Hg
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  iexact H1

/-- The body table's row at point `t` is the body there. -/
theorem row (t : Fin cfg0.N) :
    defs₀ (F := F) .tc cfg0.body (cfg0.bodyArgs t (cfg0.slots t)) = bodyAt0 t := by
  unfold defs₀; rw [Defs.onTc_tc]

/-- The pipeline's body obligation. -/
theorem obligation (c : Dev nD) : BodyObligation (dat V c) (defs₀ (F := F)) Variants.none () Set.univ := fun t => by
  rw [bigSep_W0, bigSep_W0, row]
  exact triple_restated (body_at V c t) rfl .rfl fun _ => .rfl

/-- The first result array ends at `m2` of the operands. -/
theorem array0 (c : Dev nD) : (dat V c).arrAt 0 cfg0.N = m2 (V c main_arg9) (V c main_arg11) := by
  refine Dat.arrAt_eq_of_cover (dat V c) 0 (m2 (V c main_arg9) (V c main_arg11)) (fun t ht => ?_) fun i => ⟨t0_0, flush0_0 _, ?_⟩
  · show (cfg0.win 0).cut (grid0.coords t) ((dat V c).after 0 t) = _
    rw [dat_after0, fin_N0 t]
    funext j
    refine congrArg (m2 (V c main_arg9) (V c main_arg11)) (funext fun a => Fin.ext ?_)
    have hv := (cfg0.win 0).rect_emb_val t0_0 j a
    have h0 : (cfg0.win 0).index t0_0 a = 0 := (by decide : ∀ a, (cfg0.win 0).index t0_0 a = 0) a
    rw [h0, Nat.zero_mul, Nat.zero_add] at hv
    exact hv.symm
  · exact ((cfg0.win 0).emb_mem_blk_iff t0_0 i).mpr fun a => by
      have h0 : (cfg0.win 0).index t0_0 a = 0 := (by decide : ∀ a, (cfg0.win 0).index t0_0 a = 0) a
      rw [h0, Nat.zero_mul, Nat.zero_add]
      exact ⟨Nat.zero_le _, (i a).isLt⟩

/-- The second result array ends at `v2` of the operands. -/
theorem array1 (c : Dev nD) : (dat V c).arrAt 1 cfg0.N = v2 (V c main_arg10) (V c main_arg11) := by
  refine Dat.arrAt_eq_of_cover (dat V c) 1 (v2 (V c main_arg10) (V c main_arg11)) (fun t ht => ?_) fun i => ⟨t0_0, flush0_1 _, ?_⟩
  · show (cfg0.win 1).cut (grid0.coords t) ((dat V c).after 1 t) = _
    rw [dat_after1, fin_N0 t]
    funext j
    refine congrArg (v2 (V c main_arg10) (V c main_arg11)) (funext fun a => Fin.ext ?_)
    have hv := (cfg0.win 1).rect_emb_val t0_0 j a
    have h0 : (cfg0.win 1).index t0_0 a = 0 := (by decide : ∀ a, (cfg0.win 1).index t0_0 a = 0) a
    rw [h0, Nat.zero_mul, Nat.zero_add] at hv
    exact hv.symm
  · exact ((cfg0.win 1).emb_mem_blk_iff t0_0 i).mpr fun a => by
      have h0 : (cfg0.win 1).index t0_0 a = 0 := (by decide : ∀ a, (cfg0.win 1).index t0_0 a = 0) a
      rw [h0, Nat.zero_mul, Nat.zero_add]
      exact ⟨Nat.zero_le _, (i a).isLt⟩

end Cert.KernelIdeal.Precompute
end
-- ==== Proof.MainBody.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

/-!
# The main call's body

What one grid point of the main call computes from the blocks it is handed, and one run of its body.
-/

@[expose] public section
set_option maxRecDepth 16384
noncomputable section
namespace Cert.KernelIdeal.MainCall
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

/-- What one grid point computes, as one function of the 15 blocks it is handed: the block of log-probabilities. -/
def blockOut (x0 : Vec F S256x256 .f32) (x1 : Vec F S256x8 .f32) (x2 : Vec F S256x160 .f32) (x3 : Vec F S1x160 .f32) (x4 : Vec F S160x3136 .f32) (x5 : Vec F S8x3136 .f32) (x6 : Vec F S3136x8 .f32) (x7 : Vec F S3136x160 .f32) (x8 : Vec F S1x160 .f32) (x9 : Vec F S160x128 .f32) (x10 : Vec F S8x128 .f32) (x11 : Vec F S8x160 .f32) (x12 : Vec F S1x128 .f32) (x13 : Vec F S128x10 .f32) (x14 : Vec F S1x10 .f32) : S256x10.Idx → Elt F .f32 :=
  k1_pay1 (k1_pay11 (k1_pay2 x11) (k1_pay4 x0 (k1_pay2 x11) (k1_pay3 x0 x1) x2 x3 x4 x5) (iota .tc S256x8 32 [1] iota_S256x8_d1_w32)
    (k1_pay6 x0 (k1_pay2 x11) (k1_pay3 x0 x1) x2 x3 x4 x5 x6) (k1_pay7 x0 (k1_pay2 x11) (k1_pay3 x0 x1) x2 x3 x4 x5 x6) (k1_pay9 x0 (k1_pay2 x11) (k1_pay3 x0 x1) x2 x3 x4 x5 x6) (k1_pay10 x0 (k1_pay2 x11) (k1_pay3 x0 x1) x2 x3 x4 x5 x6) x7 x8 x9 x10 x12)
    (Scalar.ofBits .f32 0x00000000#32) x13 x14

set_option maxHeartbeats 1000000 in
/-- The body on whole buffers, the inputs' at `x0` to `x14` and the result's at anything, runs to its end with the
    inputs as they were and the result at `blockOut` of them. -/
theorem body_runs (c : Dev nD) (E : Set ℕ) (i : grid1.Coords) (arg1 : Memref sig .tc .vmem S256x256 .f32) (harg1 : arg1.IsWhole) (arg2 : Memref sig .tc .vmem S256x8 .f32) (harg2 : arg2.IsWhole) (arg3 : Memref sig .tc .vmem S256x160 .f32) (harg3 : arg3.IsWhole) (arg4 : Memref sig .tc .vmem S1x160 .f32) (harg4 : arg4.IsWhole) (arg5 : Memref sig .tc .vmem S160x3136 .f32) (harg5 : arg5.IsWhole) (arg6 : Memref sig .tc .vmem S8x3136 .f32) (harg6 : arg6.IsWhole) (arg7 : Memref sig .tc .vmem S3136x8 .f32) (harg7 : arg7.IsWhole) (arg8 : Memref sig .tc .vmem S3136x160 .f32) (harg8 : arg8.IsWhole) (arg9 : Memref sig .tc .vmem S1x160 .f32) (harg9 : arg9.IsWhole) (arg10 : Memref sig .tc .vmem S160x128 .f32) (harg10 : arg10.IsWhole) (arg11 : Memref sig .tc .vmem S8x128 .f32) (harg11 : arg11.IsWhole) (arg12 : Memref sig .tc .vmem S8x160 .f32) (harg12 : arg12.IsWhole) (arg13 : Memref sig .tc .vmem S1x128 .f32) (harg13 : arg13.IsWhole) (arg14 : Memref sig .tc .vmem S128x10 .f32) (harg14 : arg14.IsWhole) (arg15 : Memref sig .tc .vmem S1x10 .f32) (harg15 : arg15.IsWhole) (arg16 : Memref sig .tc .vmem S256x10 .f32) (harg16 : arg16.IsWhole)
    (x0 : Vec F S256x256 .f32) (x1 : Vec F S256x8 .f32) (x2 : Vec F S256x160 .f32) (x3 : Vec F S1x160 .f32) (x4 : Vec F S160x3136 .f32) (x5 : Vec F S8x3136 .f32) (x6 : Vec F S3136x8 .f32) (x7 : Vec F S3136x160 .f32) (x8 : Vec F S1x160 .f32) (x9 : Vec F S160x128 .f32) (x10 : Vec F S8x128 .f32) (x11 : Vec F S8x160 .f32) (x12 : Vec F S1x128 .f32) (x13 : Vec F S128x10 .f32) (x14 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (blockOut x0 x1 x2 x3 x4 x5 x6 x7 x8 x9 x10 x11 x12 x13 x14)) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__main_kernel_eq_skeleton]; unfold cc1__main_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  funext y
  refine View.read_writes_apply_of_pieces _ _ (blockOut (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg10.view.read (Elt F) f9) (arg11.view.read (Elt F) f10) (arg12.view.read (Elt F) f11) (arg13.view.read (Elt F) f12) (arg14.view.read (Elt F) f13) (arg15.view.read (Elt F) f14)) _ ?_ y ?_; swap
  · exact View.cover_of_tiled (s := S256x10) _ ![256, 10] (by rfl) y
  intro pc hpc x
  obtain rfl := List.mem_singleton.mp hpc
  have hx : (Rect.unit (s := S256x10) ![0, 0] S256x10.size inb_S256x10_S256x10_0_0).emb x = x := Rect.emb_unit_full (s := S256x10) _ x
  refine Eq.trans ?_ (congrArg _ hx.symm)
  unfold blockOut
  rw [← View.readAt_full arg1.view f0 (inb_S256x256_S256x256_0_0), ← View.readAt_full arg2.view f1 (inb_S256x8_S256x8_0_0), ← View.readAt_full arg3.view f2 (inb_S256x160_S256x160_0_0), ← View.readAt_full arg4.view f3 (inb_S1x160_S1x160_0_0), ← View.readAt_full arg5.view f4 (inb_S160x3136_S160x3136_0_0), ← View.readAt_full arg6.view f5 (inb_S8x3136_S8x3136_0_0), ← View.readAt_full arg7.view f6 (inb_S3136x8_S3136x8_0_0), ← View.readAt_full arg8.view f7 (inb_S3136x160_S3136x160_0_0), ← View.readAt_full arg9.view f8 (inb_S1x160_S1x160_0_0), ← View.readAt_full arg10.view f9 (inb_S160x128_S160x128_0_0), ← View.readAt_full arg11.view f10 (inb_S8x128_S8x128_0_0), ← View.readAt_full arg12.view f11 (inb_S8x160_S8x160_0_0), ← View.readAt_full arg13.view f12 (inb_S1x128_S1x128_0_0), ← View.readAt_full arg14.view f13 (inb_S128x10_S128x10_0_0), ← View.readAt_full arg15.view f14 (inb_S1x10_S1x10_0_0)]
  rfl

end Cert.KernelIdeal.MainCall
end
-- ==== Proof.MainRegion.lean ====
module
public import proofs.«01_k».proof.Proof.MainBody
public import Idealize.ShloMosaic.Lib.Pipeline.Value

/-!
# The main call's pipeline

The proof data of the main call's four grid points over the contents that it finds, its body obligation, and the blocks
of the result array.
-/

@[expose] public section
set_option maxRecDepth 16384
noncomputable section
namespace Cert.KernelIdeal.MainCall
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays as found; after the body each input's buffer at its block and the result's at `blockOut`
    of the input blocks; nothing owed. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => blockOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t)
    | ⟨_ + 16, h⟩ => absurd h (Nat.not_lt.2 (Nat.le_add_left _ _))
  Φ _ := Pipeline.ΦA spec1 c
  q _ := fullShare
  owed _ := 0

theorem dat_A (c : Dev nD) (w : Fin cfg1.W) : (dat V c).A w = V c (Pipeline.arrRef spec1 w) := by dsimp only [dat]

theorem dat_after15 (c : Dev nD) (t : Fin cfg1.N) : (dat V c).after 15 t = blockOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) := by
  dsimp only [dat]

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t))

/-- The body at any point, by `body_runs` at the input blocks. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  have hb0 (d) : (dat V c).before 0 t d = iblk V c 0 t := ((dat V c).before_in_eq_fetched 0 rfl (fun _ => rfl) (fun _ _ _ => rfl) (fun t => by unfold Dat.blockOf; dsimp only [dat]; rfl) t d).trans (by unfold Dat.fetched Dat.blockOf; dsimp only [dat]; rfl)
  have hb1 (d) : (dat V c).before 1 t d = iblk V c 1 t := ((dat V c).before_in_eq_fetched 1 rfl (fun _ => rfl) (fun _ _ _ => rfl) (fun t => by unfold Dat.blockOf; dsimp only [dat]; rfl) t d).trans (by unfold Dat.fetched Dat.blockOf; dsimp only [dat]; rfl)
  have hb2 (d) : (dat V c).before 2 t d = iblk V c 2 t := ((dat V c).before_in_eq_fetched 2 rfl (fun _ => rfl) (fun _ _ _ => rfl) (fun t => by unfold Dat.blockOf; dsimp only [dat]; rfl) t d).trans (by unfold Dat.fetched Dat.blockOf; dsimp only [dat]; rfl)
  have hb3 (d) : (dat V c).before 3 t d = iblk V c 3 t := ((dat V c).before_in_eq_fetched 3 rfl (fun _ => rfl) (fun _ _ _ => rfl) (fun t => by unfold Dat.blockOf; dsimp only [dat]; rfl) t d).trans (by unfold Dat.fetched Dat.blockOf; dsimp only [dat]; rfl)
  have hb4 (d) : (dat V c).before 4 t d = iblk V c 4 t := ((dat V c).before_in_eq_fetched 4 rfl (fun _ => rfl) (fun _ _ _ => rfl) (fun t => by unfold Dat.blockOf; dsimp only [dat]; rfl) t d).trans (by unfold Dat.fetched Dat.blockOf; dsimp only [dat]; rfl)
  have hb5 (d) : (dat V c).before 5 t d = iblk V c 5 t := ((dat V c).before_in_eq_fetched 5 rfl (fun _ => rfl) (fun _ _ _ => rfl) (fun t => by unfold Dat.blockOf; dsimp only [dat]; rfl) t d).trans (by unfold Dat.fetched Dat.blockOf; dsimp only [dat]; rfl)
  have hb6 (d) : (dat V c).before 6 t d = iblk V c 6 t := ((dat V c).before_in_eq_fetched 6 rfl (fun _ => rfl) (fun _ _ _ => rfl) (fun t => by unfold Dat.blockOf; dsimp only [dat]; rfl) t d).trans (by unfold Dat.fetched Dat.blockOf; dsimp only [dat]; rfl)
  have hb7 (d) : (dat V c).before 7 t d = iblk V c 7 t := ((dat V c).before_in_eq_fetched 7 rfl (fun _ => rfl) (fun _ _ _ => rfl) (fun t => by unfold Dat.blockOf; dsimp only [dat]; rfl) t d).trans (by unfold Dat.fetched Dat.blockOf; dsimp only [dat]; rfl)
  have hb8 (d) : (dat V c).before 8 t d = iblk V c 8 t := ((dat V c).before_in_eq_fetched 8 rfl (fun _ => rfl) (fun _ _ _ => rfl) (fun t => by unfold Dat.blockOf; dsimp only [dat]; rfl) t d).trans (by unfold Dat.fetched Dat.blockOf; dsimp only [dat]; rfl)
  have hb9 (d) : (dat V c).before 9 t d = iblk V c 9 t := ((dat V c).before_in_eq_fetched 9 rfl (fun _ => rfl) (fun _ _ _ => rfl) (fun t => by unfold Dat.blockOf; dsimp only [dat]; rfl) t d).trans (by unfold Dat.fetched Dat.blockOf; dsimp only [dat]; rfl)
  have hb10 (d) : (dat V c).before 10 t d = iblk V c 10 t := ((dat V c).before_in_eq_fetched 10 rfl (fun _ => rfl) (fun _ _ _ => rfl) (fun t => by unfold Dat.blockOf; dsimp only [dat]; rfl) t d).trans (by unfold Dat.fetched Dat.blockOf; dsimp only [dat]; rfl)
  have hb11 (d) : (dat V c).before 11 t d = iblk V c 11 t := ((dat V c).before_in_eq_fetched 11 rfl (fun _ => rfl) (fun _ _ _ => rfl) (fun t => by unfold Dat.blockOf; dsimp only [dat]; rfl) t d).trans (by unfold Dat.fetched Dat.blockOf; dsimp only [dat]; rfl)
  have hb12 (d) : (dat V c).before 12 t d = iblk V c 12 t := ((dat V c).before_in_eq_fetched 12 rfl (fun _ => rfl) (fun _ _ _ => rfl) (fun t => by unfold Dat.blockOf; dsimp only [dat]; rfl) t d).trans (by unfold Dat.fetched Dat.blockOf; dsimp only [dat]; rfl)
  have hb13 (d) : (dat V c).before 13 t d = iblk V c 13 t := ((dat V c).before_in_eq_fetched 13 rfl (fun _ => rfl) (fun _ _ _ => rfl) (fun t => by unfold Dat.blockOf; dsimp only [dat]; rfl) t d).trans (by unfold Dat.fetched Dat.blockOf; dsimp only [dat]; rfl)
  have hb14 (d) : (dat V c).before 14 t d = iblk V c 14 t := ((dat V c).before_in_eq_fetched 14 rfl (fun _ => rfl) (fun _ _ _ => rfl) (fun t => by unfold Dat.blockOf; dsimp only [dat]; rfl) t d).trans (by unfold Dat.fetched Dat.blockOf; dsimp only [dat]; rfl)
  simp only [hb0, hb1, hb2, hb3, hb4, hb5, hb6, hb7, hb8, hb9, hb10, hb11, hb12, hb13, hb14]
  rw [show (dat V c).Φ t.succ = (dat V c).Φ t.castSucc from rfl,
    show (dat V c).owesAt () t.succ = (dat V c).owesAt () t.castSucc from rfl, dat_after15,
    show (dat V c).after 0 t = iblk V c 0 t from by dsimp only [dat], show (dat V c).after 1 t = iblk V c 1 t from by dsimp only [dat], show (dat V c).after 2 t = iblk V c 2 t from by dsimp only [dat], show (dat V c).after 3 t = iblk V c 3 t from by dsimp only [dat], show (dat V c).after 4 t = iblk V c 4 t from by dsimp only [dat], show (dat V c).after 5 t = iblk V c 5 t from by dsimp only [dat], show (dat V c).after 6 t = iblk V c 6 t from by dsimp only [dat], show (dat V c).after 7 t = iblk V c 7 t from by dsimp only [dat], show (dat V c).after 8 t = iblk V c 8 t from by dsimp only [dat], show (dat V c).after 9 t = iblk V c 9 t from by dsimp only [dat], show (dat V c).after 10 t = iblk V c 10 t from by dsimp only [dat], show (dat V c).after 11 t = iblk V c 11 t from by dsimp only [dat], show (dat V c).after 12 t = iblk V c 12 t from by dsimp only [dat], show (dat V c).after 13 t = iblk V c 13 t from by dsimp only [dat], show (dat V c).after 14 t = iblk V c 14 t from by dsimp only [dat]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_runs c Set.univ (grid1.coords t) _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t` is the body there. -/
theorem row (t : Fin cfg1.N) :
    defs₀ (F := F) .tc cfg1.body (cfg1.bodyArgs t (cfg1.slots t)) = bodyAt1 t := by
  unfold defs₀; rw [Defs.onTc_tc]

/-- The pipeline's body obligation. -/
theorem obligation (c : Dev nD) : BodyObligation (dat V c) (defs₀ (F := F)) Variants.none () Set.univ := fun t => by
  rw [bigSep_W1, bigSep_W1, row]
  exact triple_restated (body_at V c t) rfl .rfl fun _ => .rfl

/-- Distinct points have distinct result blocks. -/
theorem index_inj : ∀ t t' : Fin cfg1.N, win1_15.index t = win1_15.index t' → t = t' :=
  (by decide +kernel : ∀ t t' : Fin grid1.N, win1_15.index t = win1_15.index t' → t = t')

/-- Block `t` of the final result array is what point `t` computed. -/
theorem blocks (c : Dev nD) (t : Fin cfg1.N) :
    ((cfg1.win 15).blk t).view.read (Elt F) ((dat V c).arrAt 15 cfg1.N)
      = (cfg1.win 15).cut (grid1.coords t) (blockOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t)) := by
  rw [(dat V c).read_blk_arrAt_eq_flushed 15 (fun t t' _ _ hne => (cfg1.win 15).disjoint_blk fun h => hne (index_inj t t' h))
    cfg1.N t t.isLt (flush1_15 t)]
  show (cfg1.win 15).cut (grid1.coords t) ((dat V c).after 15 t) = _
  rw [dat_after15]

end Cert.KernelIdeal.MainCall
end
-- ==== Proof.WholeRun.lean ====
module
public import proofs.«01_k».proof.Proof.PrecomputeRegion
public import proofs.«01_k».proof.Proof.MainRegion
public import proofs.«01_k».proof.Proof.Gen.KernelIdeal.Regions
public import Idealize.ShloMosaic.Lib.Pipeline.RegionArrays
public import Idealize.ShloMosaic.Lib.Pipeline.RegionArraysD

/-!
# The whole program's run

The precompute call, the host operations between the two calls and the main call, one after the other: what every
buffer holds at the end, with every counter back at zero.
-/

@[expose] public section
set_option maxRecDepth 16384
noncomputable section
namespace Cert.KernelIdeal.Whole
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (Pipeline.UD sig nD τ) ℕ
variable (m : (ℓ : Loc nD τ sig) → Buf (Elt F) ℓ)

/-! ## The contents before, between and after the calls -/

/-- A valuation's contents as buffers of one core. -/
abbrev onCore (X : Dev nD → Valuation τ sig (Elt F)) (c : Dev nD) (b : Ref sig .tc) : Buf (Elt F) ((c : Thread nD τ).loc b) :=
  X c (Proc.devRef .tc b)

/-- At the launch. -/
def X0 (c : Dev nD) : Valuation τ sig (Elt F) := fun b => m (c, b)

/-- After the precompute call: its two results hold the products of the second layer's weights and biases with the head's
    first weights. -/
def X1 (c : Dev nD) : Valuation τ sig (Elt F) :=
  Function.update (Function.update (X0 m c) main_v0_0 (Precompute.m2 (onCore (X0 m) c main_arg9) (onCore (X0 m) c main_arg11)))
    main_v0_1 (Precompute.v2 (onCore (X0 m) c main_arg10) (onCore (X0 m) c main_arg11))

/-- After the host operations. -/
def X2 (c : Dev nD) : Valuation τ sig (Elt F) := StableHlo.after hostOps1 (X1 m c)

/-- After the main call: its result array as its pipeline leaves it. -/
def X3 (c : Dev nD) : Valuation τ sig (Elt F) :=
  Function.update (X2 m c) main_v19 ((MainCall.dat (onCore (X2 m)) c).arrAt 15 cfg1.N)

theorem X1_first (c : Dev nD) : X1 m c (Proc.devRef .tc main_v0_0) = Precompute.m2 (onCore (X0 m) c main_arg9) (onCore (X0 m) c main_arg11) := by
  unfold X1
  rw [Function.update_of_ne (StableHlo.devRef_ne_of_ne (by decide) : (Proc.devRef .tc main_v0_0 : DevRef τ sig) ≠ Proc.devRef .tc main_v0_1)]
  exact Function.update_self ..

theorem X1_second (c : Dev nD) : X1 m c (Proc.devRef .tc main_v0_1) = Precompute.v2 (onCore (X0 m) c main_arg10) (onCore (X0 m) c main_arg11) := by
  unfold X1
  exact Function.update_self ..

theorem X1_other (c : Dev nD) (r : Ref sig .tc) (h : r ≠ main_v0_0) (h' : r ≠ main_v0_1) : X1 m c (Proc.devRef .tc r) = X0 m c (Proc.devRef .tc r) := by
  unfold X1
  rw [Function.update_of_ne (StableHlo.devRef_ne_of_ne h' : (Proc.devRef .tc r : DevRef τ sig) ≠ Proc.devRef .tc main_v0_1),
    Function.update_of_ne (StableHlo.devRef_ne_of_ne h : (Proc.devRef .tc r : DevRef τ sig) ≠ Proc.devRef .tc main_v0_0)]

theorem X2_other (c : Dev nD) (r : Ref sig .tc) (h : r ∉ hostOps1_W) : X2 m c (Proc.devRef .tc r) = X1 m c (Proc.devRef .tc r) :=
  StableHlo.after_of_writes_sub hostOps1 _ hostOps1_writes h

theorem X3_result (c : Dev nD) : X3 m c (Proc.devRef .tc main_v19) = (MainCall.dat (onCore (X2 m)) c).arrAt 15 cfg1.N := by
  unfold X3
  exact Function.update_self ..

theorem X3_other (c : Dev nD) (r : Ref sig .tc) (h : r ≠ main_v19) : X3 m c (Proc.devRef .tc r) = X2 m c (Proc.devRef .tc r) := by
  unfold X3
  rw [Function.update_of_ne (StableHlo.devRef_ne_of_ne h : (Proc.devRef .tc r : DevRef τ sig) ≠ Proc.devRef .tc main_v19)]

/-- A buffer that no call and no host operation writes ends as launched. -/
theorem X3_kept (c : Dev nD) (r : Ref sig .tc) (h : r ∉ main_v19 :: main_v0_0 :: main_v0_1 :: hostOps1_W) :
    X3 m c (Proc.devRef .tc r) = m ((c : Thread nD τ).loc r) := by
  simp only [List.mem_cons, not_or] at h
  rw [X3_other m c r h.1, X2_other m c r (by simp only [List.mem_cons, not_or]; exact h.2.2.2), X1_other m c r h.2.1 h.2.2.1]
  rfl

/-! ## The two calls as segments -/

/-- The wait indices: the one index at every TensorCore counter. -/
def L (g : GSem nD τ sig) : Finset Unit := if g.1.2 = .tc then Finset.univ else ∅
/-- Every level is zero. -/
def lv (_ : GSem nD τ sig) (_ : Unit) : ℕ := 0

/-- The proof data of both calls. -/
def pdats : (p : Fin 2) → (c : Dev nD) → Dat τ (Elt F) Unit ℕ (Pipeline.UD sig nD τ) ℕ (cfgs p) c
  | 0 => fun c => Precompute.dat (onCore (X0 m)) c
  | 1 => fun c => MainCall.dat (onCore (X2 m)) c

theorem cut (p : Fin 2) : Pipeline.LevelCut (pcfgs (F := F)) adm () L lv p (fun _ => 0) (fun _ => 0) where
  hι c w s := by unfold L; rw [if_pos rfl]; exact Finset.mem_univ _
  hιb _ _ _ := le_refl _
  hD c g i h := absurd h (lt_irrefl 0)

/-- The arrays of the precompute call as it finds and leaves them. -/
theorem arrays0 (c : Dev nD) : ∀ w : Fin cfg0.W, (Precompute.dat (onCore (X0 m)) c).arrAt w cfg0.N = X1 m c (Proc.devRef .tc (Pipeline.arrRef spec0 w))
  | 0 => (Precompute.array0 (onCore (X0 m)) c).trans (X1_first m c).symm
  | 1 => (Precompute.array1 (onCore (X0 m)) c).trans (X1_second m c).symm

/-- The arrays of the main call as it leaves them. -/
theorem arrays1 (c : Dev nD) (w : Fin cfg1.W) : (MainCall.dat (onCore (X2 m)) c).arrAt w cfg1.N = X3 m c (Proc.devRef .tc (Pipeline.arrRef spec1 w)) := by
  by_cases h : w = 15
  · subst h; exact (X3_result m c).symm
  · have hin : (cfg1.win w).isOut = false := (by decide : ∀ w : Fin cfg1.W, w ≠ 15 → (cfg1.win w).isOut = false) w h
    have hne : Pipeline.arrRef spec1 w ≠ main_v19 := (by decide : ∀ w : Fin cfg1.W, w ≠ 15 → Pipeline.arrRef spec1 w ≠ main_v19) w h
    rw [Dat.arrAt_in _ w hin, X3_other m c _ hne, MainCall.dat_A]

/-- What the thread holds beside the buffers: its generator register, and that it owes nothing. -/
def rest (c : Dev nD) : sProp 𝕄 := iprop((∃ r, prngReg c r) ∗ ∃ W, owes (c : Thread nD τ) (0 : CellTallies nD τ sig Unit) W)

/-- The buffers of the precompute call that are no array of it. -/
abbrev others0 : Finset (DevRef τ sig) := Pipeline.ucRefs τ sig \ Pipeline.arrRefs spec0
/-- The buffers of the main call that are no array of it. -/
abbrev others1 : Finset (DevRef τ sig) := Pipeline.ucRefs τ sig \ Pipeline.arrRefs spec1

theorem operands_in : Pipeline.hbmRefs (τ := τ) Precompute.operands ⊆ others0 := by decide
theorem arrays_in0 : Pipeline.arrRefs (τ := τ) spec0 ⊆ Pipeline.ucRefs τ sig := by decide
theorem arrays_in1 : Pipeline.arrRefs (τ := τ) spec1 ⊆ Pipeline.ucRefs τ sig := by decide

/-- The precompute call. -/
def call0 : RegionSeg (pcfgs (F := F)) adm (pdats m) () defs₀ Variants.none L lv 0 :=
  RegionSeg.ofHeldDH pcfgs adm (pdats m) () defs₀ Variants.none L lv 0 (fun _ => 0) () Precompute.ownCells Precompute.ownCells_facts
    Precompute.operands others0 operands_in launch0.toP rfl
    (fun c => (Precompute.obligation (onCore (X0 m)) c).loose)
    (fun _ _ => rfl) (fun _ => rfl) (fun c => Dat.share_full _ fun _ => rfl)
    (fun c => (show (levAts L lv : sProp 𝕄) ⊢ BI.emp from by iintro -; iempintro).trans (Transfers.MayWaits.zero _ _))
    (X0 m) (X1 m)
    (fun c => by
      rw [show (pdats m 0 c).Φ 0 = Pipeline.ΦD Precompute.ownCells spec0 Precompute.operands (onCore (X0 m)) c from rfl, Pipeline.ΦD_eq]
      iintro ⟨Hr, Hg, Hq, Hh, -⟩
      isplitl [Hr]; · iexact Hr
      isplitl [Hg]; · iexact Hg
      isplitl [Hq]; · iexact Hq
      iexact Hh)
    (fun c => by
      rw [show (pdats m 0 c).Φ (Fin.last _) = Pipeline.ΦD Precompute.ownCells spec0 Precompute.operands (onCore (X0 m)) c from rfl, Pipeline.ΦD_eq]
      exact .rfl)
    (fun _ => 0) (cut 0) (fun _ => BI.emp)
    (fun c w => rfl) (fun c w => arrays0 m c w)

/-- The main call. -/
def call1 : RegionSeg (pcfgs (F := F)) adm (pdats m) () defs₀ Variants.none L lv 1 :=
  RegionSeg.ofHeld pcfgs adm (pdats m) () defs₀ Variants.none L lv 1 (fun _ => 0) (fun c => iprop(∃ r, prngReg c r)) (fun c => iprop(∃ r, prngReg c r))
    launch1.toP rfl
    (fun c => (MainCall.obligation (onCore (X2 m)) c).loose)
    (fun _ _ => rfl) (fun _ => rfl) (fun c => Dat.share_full _ fun _ => rfl)
    (fun c => .rfl) (fun c => .rfl)
    (fun _ => 0) (cut 1) (fun c => StableHlo.held (c : Thread nD τ) others1 (X2 m c))
    (X2 m) (X3 m)
    (fun c w => rfl) (fun c w => arrays1 m c w)

/-- The host operations between the calls. -/
def between : HostSeg (Ix := Unit) (Name := ℕ) (U := Pipeline.UD sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (X1 m) rest

/-- The program's items. -/
abbrev items (c : Dev nD) : List (Seg (pcfgs (F := F)) adm (pdats m) () defs₀ Variants.none L lv) :=
  [.region (call0 m), .host (between m), .region (call1 m)]

/-- The launch's buffers are what the precompute call is entered from, -/
theorem enter0 (c : Dev nD) : iprop(StableHlo.held (c : Thread nD τ) (Pipeline.ucRefs τ sig) (X0 m c) ∗ rest c) ⊢ (call0 m).pre c := by
  show _ ⊢ iprop(StableHlo.held (c : Thread nD τ) (Pipeline.arrRefs spec0) (X0 m c) ∗ (∃ r, prngReg c r)
    ∗ (StableHlo.held (c : Thread nD τ) others0 (X0 m c) ∗ BI.emp) ∗ ∃ Wd, owes (c : Thread nD τ) (0 : CellTallies nD τ sig Unit) Wd)
  rw [StableHlo.held_sub_split (c : Thread nD τ) arrays_in0 (X0 m c)]
  unfold rest
  iintro ⟨⟨Ha, Ho⟩, Hg, HW⟩
  isplitl [Ha]; · iexact Ha
  isplitl [Hg]; · iexact Hg
  isplitl [Ho]
  · isplitl [Ho]; · iexact Ho
    iempintro
  iexact HW

/-- and what it leaves is what the host operations start from. -/
theorem leave0 (c : Dev nD) : (call0 m).post c ⊢ iprop(StableHlo.held (c : Thread nD τ) (Pipeline.ucRefs τ sig) (X1 m c) ∗ rest c) := by
  show iprop(StableHlo.held (c : Thread nD τ) (Pipeline.arrRefs spec0) (X1 m c) ∗ (∃ r, prngReg c r)
    ∗ (StableHlo.held (c : Thread nD τ) others0 (X0 m c) ∗ BI.emp) ∗ ∃ Wd, owes (c : Thread nD τ) (0 : CellTallies nD τ sig Unit) Wd) ⊢ _
  rw [StableHlo.held_sub_split (c : Thread nD τ) arrays_in0 (X1 m c),
    StableHlo.held_congr (c : Thread nD τ) (S := others0) (V := X0 m c) (V' := X1 m c) (fun b hb => by
      have hb' := Finset.mem_sdiff.mp hb
      unfold X1
      rw [Function.update_of_ne, Function.update_of_ne]
      · rintro rfl; exact hb'.2 (by decide)
      · rintro rfl; exact hb'.2 (by decide))]
  unfold rest
  iintro ⟨Ha, Hg, ⟨Ho, -⟩, HW⟩
  isplitl [Ha Ho]
  · isplitl [Ha]; · iexact Ha
    iexact Ho
  isplitl [Hg]; · iexact Hg
  iexact HW

/-- What the host operations leave is what the main call is entered from, -/
theorem enter1 (c : Dev nD) : iprop(StableHlo.held (c : Thread nD τ) (Pipeline.ucRefs τ sig) (X2 m c) ∗ rest c) ⊢ (call1 m).pre c := by
  show _ ⊢ iprop(StableHlo.held (c : Thread nD τ) (Pipeline.arrRefs spec1) (X2 m c) ∗ (∃ r, prngReg c r)
    ∗ StableHlo.held (c : Thread nD τ) others1 (X2 m c) ∗ ∃ Wd, owes (c : Thread nD τ) (0 : CellTallies nD τ sig Unit) Wd)
  rw [StableHlo.held_sub_split (c : Thread nD τ) arrays_in1 (X2 m c)]
  unfold rest
  iintro ⟨⟨Ha, Ho⟩, Hg, HW⟩
  isplitl [Ha]; · iexact Ha
  isplitl [Hg]; · iexact Hg
  isplitl [Ho]; · iexact Ho
  iexact HW

/-- and at the end every buffer is held at `X3`, nothing owed. -/
theorem leave1 (c : Dev nD) : (call1 m).post c ⊢ iprop(StableHlo.held (c : Thread nD τ) (Pipeline.ucRefs τ sig) (X3 m c)
    ∗ ∃ W, owes (c : Thread nD τ) (0 : CellTallies nD τ sig Unit) W) := by
  show iprop(StableHlo.held (c : Thread nD τ) (Pipeline.arrRefs spec1) (X3 m c) ∗ (∃ r, prngReg c r)
    ∗ StableHlo.held (c : Thread nD τ) others1 (X2 m c) ∗ ∃ Wd, owes (c : Thread nD τ) (0 : CellTallies nD τ sig Unit) Wd) ⊢ _
  rw [StableHlo.held_sub_split (c : Thread nD τ) arrays_in1 (X3 m c),
    StableHlo.held_congr (c : Thread nD τ) (S := others1) (V := X2 m c) (V' := X3 m c) (fun b hb => by
      have hb' := Finset.mem_sdiff.mp hb
      unfold X3
      rw [Function.update_of_ne]
      rintro rfl; exact hb'.2 (by decide))]
  iintro ⟨Ha, -, Ho, HW⟩
  isplitl [Ha Ho]
  · isplitl [Ha]; · iexact Ha
    iexact Ho
  iexact HW

/-! ## The run -/

/-- What the launch deals a core holds what the precompute call needs. -/
theorem dealt (ρ : Dev nD → PrngReg) (c : Dev nD) :
    (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp) : sProp 𝕄)
    ⊢ iprop(StableHlo.held (c : Thread nD τ) (Pipeline.ucRefs τ sig) (X0 m c) ∗ rest c) := by
  rw [← Pipeline.unscopedBufs_held (Ix := Unit) (Name := ℕ) (U := Pipeline.UD sig nD τ) (Lvl := ℕ) c (X0 m c)]
  unfold rest
  iintro ⟨Hb, -, HO, -, Hg, -⟩
  isplitl [Hb]; · iexact Hb
  isplitl [Hg]; · iexists _; iexact Hg
  iexists _; iexact HO

set_option backward.isDefEq.respectTransparency.types false in
/-- From any memory with every counter at zero, every run of the program ends with every unscoped buffer at `X3` and
    every counter at zero. -/
theorem runs (ρ : Dev nD → PrngReg) :
    θ_run defs (onTc (τ := τ) (main (F := F))) ⟨m, fun _ => 0, ρ⟩ (fun r =>
      (∀ c : Dev nD, ∀ b ∈ Pipeline.ucRefs τ sig, r.2.mem (c, b) = X3 m c b) ∧ r.2.sem = fun _ => 0) := by
  refine Pipeline.θ_run_regions_kit_dev_sems (pcfgs (F := F)) adm (pdats m) () cellOf_inj embL defs₀ Variants.none L lv m ρ main
    (items m)
    (fun c Q => by
      rewrite [main_chain c, Seg.run_eq_chain,
        show (items m c).map Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, Seg.pipes_host, Seg.pipes_region, Seg.pipes_nil]; decide) (fun _ => 0)
    (fun g h => by unfold L; rw [if_neg h]) (fun _ => BI.emp)
    (initOf (Pipeline.cells cfgs cellOf_inj) (Pipeline.launchToks cfgs cellOf_inj), 1) ?_
    (T₀ := fun c => iprop(StableHlo.held (c : Thread nD τ) (Pipeline.ucRefs τ sig) (X0 m c) ∗ rest c))
    (Tₙ := fun c => StableHlo.held (c : Thread nD τ) (Pipeline.ucRefs τ sig) (X3 m c))
    (hch := fun c => ⟨enter0 m c, leave0 m c, enter1 m c, leave1 m c⟩)
    (hinit := ?_) (QY := fun c s => ∀ b ∈ Pipeline.ucRefs τ sig, s.mem (c, b) = X3 m c b)
    (hfin := fun c s' => ?_) (hQ := fun _ h hz => ⟨h, funext fun g => hz g (.inr (regions_no_unscoped g.2))⟩)
  · iintro Hu
    ihave H' := (ownU_pair _ _) $$ Hu
    icases H' with ⟨HP, -⟩
    imodintro
    isplitl [HP]; · iexact HP
    iapply (show BI.emp ⊢ bigSep Finset.univ (fun _ : Dev nD => (BI.emp : sProp 𝕄)) from by rw [BI.bigSep_emp_const])
    iempintro
  · have hdeal : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (X0 m c) ∗ rest c) : sProp 𝕄) := by
      exact bigSep_mono fun c _ => dealt m ρ c
    iintro ⟨H, -⟩
    imodintro
    iapply hdeal $$ H
  · unfold StableHlo.held
    iintro ⟨Hh, HSI⟩
    ihave Hr := (pointsTo_read_all (Pipeline.ucRefs τ sig) (fun b => ((c : Thread nD τ).1, b)) (X3 m c) s') $$ [Hh HSI]
    · isplitl [Hh] <;> iassumption
    icases Hr with ⟨%h, HSI⟩
    imodintro
    isplitr
    · ipureintro
      exact h
    · iexact HSI

end Cert.KernelIdeal.Whole
end
-- ==== Proof.Frames.lean ====
module
public import proofs.«01_k».proof.Defs
public import proofs.«01_k».proof.Proof.WholeRun
public import proofs.«01_k».proof.Proof.Gen.Kernel
public import proofs.«01_k».proof.Proof.Gen.ReferenceIdeal
public import proofs.«01_k».proof.Proof.Gen.ReferenceIdeal.Run
public import proofs.«01_k».proof.Proof.Gen.Pre_finite
public import Idealize.ShloMosaic.Lib.Quiescent

/-!
# The frames

Every run of each program ends with its arguments as they were and every counter at zero.
-/

@[expose] public section
set_option maxRecDepth 16384
noncomputable section
namespace Cert.Frames
open Idealize.ShloMosaic Idealize.ShloMosaic.TcCoe Idealize.SL.Sem

section Ideal
open Cert.KernelIdeal Cert.KernelIdeal.Gen
variable {F : FTy → Type} [FloatOps F]

/-- The kernel program over any floats: its result as the main call's pipeline leaves it, its arguments as they were, every
    counter at zero. -/
theorem kernel_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v19) = Whole.X3 m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c =>
    have held (b : Ref sig .tc) (hb : (Proc.devRef .tc b : DevRef τ sig).isScoped = false) :
        r.2.mem ((c.tc : Thread nD τ).loc b) = Whole.X3 m c (Proc.devRef .tc b) :=
      h.1 c (Proc.devRef .tc b) (Finset.mem_filter.mpr ⟨StableHlo.devRef_mem_tcRefs b, by rw [hb]; decide⟩)
    have kept (b : Ref sig .tc) (hb : (Proc.devRef .tc b : DevRef τ sig).isScoped = false) (hk : b ∉ main_v19 :: main_v0_0 :: main_v0_1 :: hostOps1_W) :
        r.2.mem ((c.tc : Thread nD τ).loc b) = m ((c.tc : Thread nD τ).loc b) := (held b hb).trans (Whole.X3_kept m c b hk)
    ⟨held main_v19 rfl, kept main_arg0 rfl (by decide), kept main_arg1 rfl (by decide), kept main_arg2 rfl (by decide), kept main_arg3 rfl (by decide), kept main_arg4 rfl (by decide), kept main_arg5 rfl (by decide), kept main_arg6 rfl (by decide), kept main_arg7 rfl (by decide), kept main_arg8 rfl (by decide), kept main_arg9 rfl (by decide), kept main_arg10 rfl (by decide), kept main_arg11 rfl (by decide), kept main_arg12 rfl (by decide), kept main_arg13 rfl (by decide), kept main_arg14 rfl (by decide)⟩, h.2⟩)
    (Whole.runs m ρ)

/-- The frame of the ideal kernel. -/
theorem kernelIdeal : Cert.quiescent_KernelIdeal := fun m ρ _ =>
  (θ_run defs _ _).mono (fun _ h => ⟨fun c => (h.1 c).2, h.2⟩) (kernel_run (F := Ideal) m ρ)

/-- The same where the precondition holds. -/
theorem kernelIdeal_finite : Cert.quiescent_KernelIdeal_pre_finite := fun m ρ _ =>
  (θ_run defs _ _).mono (fun _ h => ⟨fun c => (h.1 c).2, h.2⟩) (kernel_run (F := Ideal) m ρ)

end Ideal

/-! ## The printed kernel is the ideal one's text -/

set_option maxHeartbeats 8000000 in
/-- The two programs' kernels are one table of bodies, -/
theorem same_kernels (F : FTy → Type) [FloatOps F] : @Cert.Kernel.defs₀ F _ _ = @Cert.KernelIdeal.defs₀ F _ _ := by
  unfold Cert.Kernel.defs₀ Cert.KernelIdeal.defs₀
  refine congrArg _ (funext fun l => ?_)
  match l with
  | 0 => rfl
  | 1 => rfl

/-- so are their pipelines. -/
theorem same_defs (F : FTy → Type) [FloatOps F] : @Cert.Kernel.defs F _ _ = @Cert.KernelIdeal.defs F _ _ := by
  unfold Cert.Kernel.defs Cert.KernelIdeal.defs
  exact congrArg _ (same_kernels F)

/-- The frame of the printed kernel: `kernel_run` over bit patterns. -/
theorem kernel : Cert.quiescent_Kernel := fun m ρ _ => by
  rw [same_defs Bits]
  exact (θ_run Cert.KernelIdeal.defs _ _).mono (fun _ h => ⟨fun c => (h.1 c).2, h.2⟩) (kernel_run (F := Bits) m ρ)

/-! ## The reference -/

/-- The frame of the reference, a host program that declares no counter. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem referenceIdeal_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Frames
end
-- ==== Proof.Layers.lean ====
module
public import Idealize.ShloMosaic.Lib.Pointwise

/-!
# The layers of a row

The reference's arithmetic for one row, over extended reals: a mixture layer, the head's first product, the log-softmax; and the
kernel's order of the same sums, shown equal. Where sums are exchanged with products the entries must be real.
-/

@[expose] public section
noncomputable section
namespace Cert.Moe
open Idealize.ShloMosaic
open scoped BigOperators

/-! ## Real entries -/

/-- Neither infinity. -/
def Real (x : EReal) : Prop := ∃ r : ℝ, x = (r : EReal)

theorem Real.zero : Real 0 := ⟨0, rfl⟩
theorem Real.one : Real 1 := ⟨1, rfl⟩
theorem Real.add {x y : EReal} : Real x → Real y → Real (x + y) := fun ⟨a, ha⟩ ⟨b, hb⟩ => ⟨a + b, by rw [ha, hb]; rfl⟩
theorem Real.sub {x y : EReal} : Real x → Real y → Real (x - y) := fun ⟨a, ha⟩ ⟨b, hb⟩ => ⟨a - b, by rw [ha, hb]; rfl⟩
theorem Real.mul {x y : EReal} : Real x → Real y → Real (x * y) := fun ⟨a, ha⟩ ⟨b, hb⟩ => ⟨a * b, by rw [ha, hb]; rfl⟩
theorem Real.max {x y : EReal} (hx : Real x) (hy : Real y) : Real (max x y) := by
  rcases max_choice x y with h | h <;> rw [h] <;> assumption
theorem Real.sum {ι : Type} (s : Finset ι) (f : ι → EReal) (h : ∀ i, Real (f i)) : Real (∑ i ∈ s, f i) := by
  classical
  induction s using Finset.induction_on with
  | empty => exact Real.zero
  | insert a s ha ih => rw [Finset.sum_insert ha]; exact (h a).add ih
theorem Real.ne_bot {x : EReal} : Real x → x ≠ ⊥ := fun ⟨a, ha⟩ => by rw [ha]; exact EReal.coe_ne_bot a
theorem Real.exp {x : EReal} : Real x → ∃ r : ℝ, 0 < r ∧ Ideal.exp x = (r : EReal) := fun ⟨a, ha⟩ =>
  ⟨_, Real.exp_pos a, by rw [ha]; rfl⟩
theorem Real.div {x y : EReal} (hx : Real x) (hy : ∃ r : ℝ, 0 < r ∧ y = (r : EReal)) : Real (Ideal.div x y) := by
  obtain ⟨r, hr, rfl⟩ := hy
  rw [Ideal.div_coe hr.ne']
  exact hx.mul ⟨_, rfl⟩

/-- A finite family of reals in `EReal` is one of real numbers. -/
theorem Real.family {ι : Sort*} {f : ι → EReal} (h : ∀ i, Real (f i)) : ∃ g : ι → ℝ, ∀ i, f i = (g i : EReal) :=
  ⟨fun i => (h i).choose, fun i => (h i).choose_spec⟩

theorem coe_sum {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih]; rfl

/-! ## The reference's row -/

variable {I O N : ℕ}

/-- A row times a matrix. -/
def rowDot (x : Fin I → EReal) (W : Fin I → Fin O → EReal) (o : Fin O) : EReal := ∑ i, x i * W i o

/-- Expert `e`'s hidden unit `k`. -/
def hidden (x : Fin I → EReal) (Wa : Fin 8 → Fin I → Fin 20 → EReal) (ba : Fin 8 → Fin 20 → EReal) (e : Fin 8) (k : Fin 20) : EReal :=
  max (∑ i, x i * Wa e i k + ba e k) 0

/-- The experts' outputs, weighted by the gates and summed. -/
def mix (g : Fin 8 → EReal) (h : Fin 8 → Fin 20 → EReal) (Wb : Fin 8 → Fin 20 → Fin O → EReal) (bb : Fin 8 → Fin O → EReal) (o : Fin O) : EReal :=
  ∑ e, (∑ k, g e * h e k * Wb e k o + g e * bb e o)

/-- The log-softmax of a row, as the reference has it. -/
def logSoftmax (m : EReal) (y : Fin 10 → EReal) (j : Fin 10) : EReal := y j - m - Ideal.log (0 + ∑ i, Ideal.exp (y i - m))

/-! ## The kernel's order -/

/-- The hidden units of all experts in one row: unit `k` of expert `e` stands at `20 e + k`. -/
theorem sum_units (F : Fin 8 → Fin 20 → EReal) :
    ∑ q : Fin 160, F ⟨q.val / 20, by have := q.isLt; omega⟩ ⟨q.val % 20, by omega⟩ = ∑ e, ∑ k, F e k := by
  rw [← Fintype.sum_prod_type']
  exact (Fintype.sum_equiv (finProdFinEquiv (m := 8) (n := 20)) _ _ fun p => by
    have h := p.2.isLt
    congr 1
    · exact Fin.ext (show p.1.val = (p.2.val + 20 * p.1.val) / 20 by omega)
    · exact Fin.ext (show p.2.val = (p.2.val + 20 * p.1.val) % 20 by omega)).symm

/-- The gate of the unit's expert, by a product with a table of zeros and ones. -/
theorem spread (g : Fin 8 → EReal) (a : Fin 8) : ∑ e, g e * (if a = e then (1 : EReal) else 0) = g a := by
  simp

/-- The kernel's mixture: all units in one product, all biases in another. -/
theorem mix_eq (g : Fin 8 → EReal) (h : Fin 8 → Fin 20 → EReal) (Wb : Fin 8 → Fin 20 → Fin O → EReal) (bb : Fin 8 → Fin O → EReal) (o : Fin O) :
    (∑ e, ∑ k, h e k * g e * Wb e k o) + ∑ e, g e * bb e o = mix g h Wb bb o := by
  unfold mix
  rw [← Finset.sum_add_distrib]
  refine Finset.sum_congr rfl fun e _ => congrArg (· + _) (Finset.sum_congr rfl fun k _ => ?_)
  rw [mul_comm (h e k)]

/-- The kernel's head: the second layer's weights and biases are multiplied by the head's first weights beforehand. -/
theorem head_eq (g : Fin 8 → EReal) (h : Fin 8 → Fin 20 → EReal) (Wb : Fin 8 → Fin 20 → Fin N → EReal) (bb : Fin 8 → Fin N → EReal)
    (Wf : Fin N → Fin O → EReal) (hg : ∀ e, Real (g e)) (hh : ∀ e k, Real (h e k)) (hWb : ∀ e k n, Real (Wb e k n))
    (hbb : ∀ e n, Real (bb e n)) (hWf : ∀ n o, Real (Wf n o)) (o : Fin O) :
    (∑ e, ∑ k, h e k * g e * ∑ n, Wb e k n * Wf n o) + ∑ e, g e * ∑ n, bb e n * Wf n o = rowDot (mix g h Wb bb) Wf o := by
  obtain ⟨g, rfl⟩ : ∃ g' : Fin 8 → ℝ, g = fun e => (g' e : EReal) := (Real.family hg).imp fun _ h => funext h
  obtain ⟨h, rfl⟩ : ∃ h' : Fin 8 → Fin 20 → ℝ, h = fun e k => (h' e k : EReal) :=
    ⟨fun e k => (hh e k).choose, funext fun e => funext fun k => (hh e k).choose_spec⟩
  obtain ⟨Wb, rfl⟩ : ∃ W' : Fin 8 → Fin 20 → Fin N → ℝ, Wb = fun e k n => (W' e k n : EReal) :=
    ⟨fun e k n => (hWb e k n).choose, funext fun e => funext fun k => funext fun n => (hWb e k n).choose_spec⟩
  obtain ⟨bb, rfl⟩ : ∃ b' : Fin 8 → Fin N → ℝ, bb = fun e n => (b' e n : EReal) :=
    ⟨fun e n => (hbb e n).choose, funext fun e => funext fun n => (hbb e n).choose_spec⟩
  obtain ⟨Wf, rfl⟩ : ∃ W' : Fin N → Fin O → ℝ, Wf = fun n o => (W' n o : EReal) :=
    ⟨fun n o => (hWf n o).choose, funext fun n => funext fun o => (hWf n o).choose_spec⟩
  unfold rowDot mix
  simp only [← EReal.coe_mul, ← EReal.coe_add, coe_sum]
  refine congrArg _ ?_
  simp only [Finset.sum_mul, Finset.mul_sum, add_mul, Finset.sum_add_distrib]
  refine congrArg₂ (· + ·) ?_ ?_
  · rw [Finset.sum_comm (s := (Finset.univ : Finset (Fin N)))]
    refine Finset.sum_congr rfl fun e _ => ?_
    rw [Finset.sum_comm]
    exact Finset.sum_congr rfl fun n _ => Finset.sum_congr rfl fun k _ => by ring
  · rw [Finset.sum_comm (s := (Finset.univ : Finset (Fin N)))]
    exact Finset.sum_congr rfl fun e _ => Finset.sum_congr rfl fun n _ => by ring

/-- The kernel subtracts the maximum and the logarithm together. -/
theorem logSoftmax_eq (m : EReal) (y : Fin 10 → EReal) (hm : Real m) (hy : ∀ j, Real (y j)) (j : Fin 10) :
    y j - (m + Ideal.log (∑ i, Ideal.exp (y i - m))) = logSoftmax m y j := by
  unfold logSoftmax
  rw [zero_add]
  obtain ⟨E, hE⟩ : ∃ E : Fin 10 → ℝ, ∀ i, 0 < E i ∧ Ideal.exp (y i - m) = (E i : EReal) :=
    ⟨fun i => ((hy i).sub hm).exp.choose, fun i => ((hy i).sub hm).exp.choose_spec⟩
  have hs : ∑ i, Ideal.exp (y i - m) = ((∑ i, E i : ℝ) : EReal) := by
    rw [← coe_sum]; exact Finset.sum_congr rfl fun i _ => (hE i).2
  have hpos : 0 < ∑ i, E i := Finset.sum_pos (fun i _ => (hE i).1) ⟨0, Finset.mem_univ _⟩
  rw [hs, Ideal.log_coe, if_neg (not_le.mpr hpos)]
  obtain ⟨a, ha⟩ := hy j
  obtain ⟨b, hb⟩ := hm
  rw [ha, hb, ← EReal.coe_add, ← EReal.coe_sub, ← EReal.coe_sub, ← EReal.coe_sub, sub_sub]

end Cert.Moe
end
-- ==== Proof.Finite.lean ====
module
public import proofs.«01_k».proof.Pre_finite
public import proofs.«01_k».proof.Proof.Layers
public import Idealize.ShloMosaic.Lib.ReduceAll
public import Idealize.ShloMosaic.Lib.Affine
public import Idealize.ShloMosaic.Lib.Pointwise

/-!
# What the precondition says
-/

@[expose] public section
noncomputable section
namespace Cert.Pre_finite
open Idealize.ShloMosaic

/-- Where the precondition's test of one argument passes, every entry is real. -/
theorem entries {s : Shape} {axes : List (Fin s.rank)} (a : FVec Ideal s .f32) (hb) (h : s.ReducesTo axes S_) (hu : 0 < S_.numel) (j : S_.Idx)
    (e : Host.reduce IntOp.andi (cmpf .olt (Host.absf a) (broadcastInDim s ![] hb (constant S_ .f32 0x7F800000#32))) (constantI S_ 1 1#1) h hu j = 1#1)
    (i : s.Idx) : Moe.Real (a i) := by
  haveI : Subsingleton S_.Idx := ⟨fun a b => funext fun k => k.elim0⟩
  have h1 := Host.reduce_andi_all _ _ h hu j e i
  have h2 : max (a i) (-(a i)) < Ideal.ofBits .f32 (0x7F800000#32) := by
    by_contra hn
    have : (cmpf .olt (Host.absf a) (broadcastInDim s ![] hb (constant S_ .f32 0x7F800000#32))) i = BitVec.ofBool (decide (max (a i) (-(a i)) < Ideal.ofBits .f32 (0x7F800000#32))) := rfl
    rw [this, decide_eq_false hn] at h1
    exact absurd h1 (by decide)
  have h3 : Ideal.ofBits .f32 (0x7F800000#32) = ⊤ := by simp [Ideal.ofBits, Ideal.ieee]
  rw [h3] at h2
  generalize (a i : EReal) = z at h2
  induction z using EReal.rec with
  | bot => exact absurd ((le_max_right _ _).trans_lt h2) (by rw [EReal.neg_bot]; exact lt_irrefl _)
  | top => exact absurd ((le_max_left _ _).trans_lt h2) (lt_irrefl _)
  | coe r => exact ⟨r, rfl⟩

variable [Facts]

/-- Where the precondition holds, every entry of every argument is real. -/
theorem reads (a0 : FVec Ideal S1024x256 .f32) (a1 : FVec Ideal S256x8 .f32) (a2 : FVec Ideal S8x256x20 .f32) (a3 : FVec Ideal S8x20 .f32)
    (a4 : FVec Ideal S8x20x3136 .f32) (a5 : FVec Ideal S8x3136 .f32) (a6 : FVec Ideal S3136x8 .f32) (a7 : FVec Ideal S8x3136x20 .f32)
    (a8 : FVec Ideal S8x20 .f32) (a9 : FVec Ideal S8x20x93312 .f32) (a10 : FVec Ideal S8x93312 .f32) (a11 : FVec Ideal S93312x128 .f32)
    (a12 : FVec Ideal S128 .f32) (a13 : FVec Ideal S128x10 .f32) (a14 : FVec Ideal S10 .f32)
    (h : fn (F := Ideal) a0 a1 a2 a3 a4 a5 a6 a7 a8 a9 a10 a11 a12 a13 a14 = fun _ => 1#1) :
    (∀ i, Moe.Real (a0 i)) ∧ (∀ i, Moe.Real (a1 i)) ∧ (∀ i, Moe.Real (a2 i)) ∧ (∀ i, Moe.Real (a3 i)) ∧ (∀ i, Moe.Real (a4 i))
      ∧ (∀ i, Moe.Real (a5 i)) ∧ (∀ i, Moe.Real (a6 i)) ∧ (∀ i, Moe.Real (a7 i)) ∧ (∀ i, Moe.Real (a8 i)) ∧ (∀ i, Moe.Real (a9 i))
      ∧ (∀ i, Moe.Real (a10 i)) ∧ (∀ i, Moe.Real (a11 i)) ∧ (∀ i, Moe.Real (a12 i)) ∧ (∀ i, Moe.Real (a13 i)) ∧ (∀ i, Moe.Real (a14 i)) := by
  have h0 := congrFun h ix0
  unfold fn fn_part1 fn_part2 fn_part3 fn_part4 at h0
  dsimp only at h0
  simp only [andi_apply, IntOp.andi_eq_one] at h0
  obtain ⟨⟨⟨⟨⟨⟨⟨⟨⟨⟨⟨⟨⟨⟨⟨-, h0⟩, h1⟩, h2⟩, h3⟩, h4⟩, h5⟩, h6⟩, h7⟩, h8⟩, h9⟩, h10⟩, h11⟩, h12⟩, h13⟩, h14⟩ := h0
  exact ⟨entries _ _ _ _ _ h0, entries _ _ _ _ _ h1, entries _ _ _ _ _ h2, entries _ _ _ _ _ h3, entries _ _ _ _ _ h4, entries _ _ _ _ _ h5,
    entries _ _ _ _ _ h6, entries _ _ _ _ _ h7, entries _ _ _ _ _ h8, entries _ _ _ _ _ h9, entries _ _ _ _ _ h10, entries _ _ _ _ _ h11,
    entries _ _ _ _ _ h12, entries _ _ _ _ _ h13, entries _ _ _ _ _ h14⟩

end Cert.Pre_finite
end
-- ==== Proof.PrecomputeValue.lean ====
module
public import proofs.«01_k».proof.Proof.Precompute
public import Idealize.ShloMosaic.Lib.Pointwise

/-!
# The precompute call's results, entry by entry
-/

@[expose] public section
noncomputable section
namespace Cert.KernelIdeal.Precompute
open Idealize.ShloMosaic Cert.KernelIdeal Cert.KernelIdeal.Gen
open scoped BigOperators

/-- An entry of the precompute call's first result. -/
theorem m2_at (b : S8x20x93312.Idx → EReal) (w : S93312x128.Idx → EReal) (e : Fin 8) (k : Fin 20) (f : Fin 128) :
    m2 (F := Ideal) b w (ix3 e k f) = ∑ n, b (ix3 e k n) * w (ix2 n f) := by
  have hs : ∀ n, slab (F := Ideal) b e (ix2 k n) = b (ix3 e k n) := fun n => by
    unfold slab
    refine congrArg b (funext fun a => ?_)
    match a with
    | ⟨0, _⟩ => rfl
    | ⟨1, _⟩ => rfl
    | ⟨2, _⟩ => rfl
  have hm : m2 (F := Ideal) b w (ix3 e k f) = slabHead (F := Ideal) b w e (ix2 k f) := by
    unfold m2
    refine congrArg _ (funext fun a => ?_)
    match a with
    | ⟨0, _⟩ => rfl
    | ⟨1, _⟩ => rfl
  rw [hm]
  unfold slabHead headBf16
  pointwise
  simp only [hs]

/-- An entry of the precompute call's second result. -/
theorem v2_at (b : S8x93312.Idx → EReal) (w : S93312x128.Idx → EReal) (e : Fin 8) (f : Fin 128) :
    v2 (F := Ideal) b w (ix2 e f) = ∑ n, b (ix2 e n) * w (ix2 n f) := by
  unfold v2 k0_pay35 headBf16
  pointwise

end Cert.KernelIdeal.Precompute
end
-- ==== Proof.Gates.lean ====
module
public import Idealize.ShloMosaic.Lib.Pointwise
public import Idealize.ShloMosaic.Lib.SortFacts

/-!
# The gates of a row

The two greatest of eight logits share the weight one by a softmax; the other six experts get none. Of equal logits the
lower index counts as the greater. Two ways of picking the two are shown equal: by a stable sort, and by a maximum, the least
index that reaches it, and the same again with that index struck out.
-/

@[expose] public section
noncomputable section
namespace Cert.Moe
open Idealize.ShloMosaic
open scoped BigOperators

/-! ## The two greatest -/

/-- `a` comes before `b` in a sort of the logits, greatest first. -/
def before (l : Fin 8 → EReal) (a b : Fin 8) : Bool := decide (l b < l a)

/-- The index of the greatest logit. -/
def first (l : Fin 8 → EReal) : Fin 8 := sortedFrom (before l) 0
/-- The index of the second greatest. -/
def second (l : Fin 8 → EReal) : Fin 8 := sortedFrom (before l) 1

/-- `a` is greater than `b`, or equal and of lower index. -/
def Ahead (l : Fin 8 → EReal) (a b : Fin 8) : Prop := l b < l a ∨ (l b = l a ∧ a < b)

theorem Ahead.trans {l : Fin 8 → EReal} {a b c : Fin 8} (h : Ahead l a b) (h' : Ahead l b c) : Ahead l a c := by
  unfold Ahead at *
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- Inserting an index below all others keeps a list in order. -/
theorem insert_ordered (l : Fin 8 → EReal) (a : Fin 8) : ∀ L : List (Fin 8), (∀ b ∈ L, a < b) → L.Pairwise (Ahead l) →
    (insertBefore (before l) a L).Pairwise (Ahead l)
  | [], _, _ => List.pairwise_singleton _ _
  | b :: L, hlt, hL => by
    rw [List.pairwise_cons] at hL
    unfold insertBefore
    split
    · rename_i h
      have hb : l a < l b := of_decide_eq_true h
      refine List.pairwise_cons.mpr ⟨fun c hc => ?_, insert_ordered l a L (fun b hb => hlt b (List.mem_cons_of_mem _ hb)) hL.2⟩
      rcases List.mem_cons.mp ((perm_insertBefore (before l) a L).mem_iff.mp hc) with rfl | hc
      · exact .inl hb
      · exact hL.1 c hc
    · rename_i h
      have hb : l b ≤ l a := not_lt.mp fun h' => h (decide_eq_true h')
      have hab : Ahead l a b := (lt_or_eq_of_le hb).imp_right fun e => ⟨e, hlt b List.mem_cons_self⟩
      refine List.pairwise_cons.mpr ⟨fun c hc => ?_, List.pairwise_cons.mpr hL⟩
      rcases List.mem_cons.mp hc with rfl | hc
      · exact hab
      · exact hab.trans (hL.1 c hc)

/-- The sort puts a list of increasing indices in order. -/
theorem sort_ordered (l : Fin 8 → EReal) : ∀ L : List (Fin 8), L.Pairwise (· < ·) → (stableSort (before l) L).Pairwise (Ahead l)
  | [], _ => List.Pairwise.nil
  | a :: L, h => by
    rw [List.pairwise_cons] at h
    exact insert_ordered l a _ (fun b hb => h.1 b ((perm_stableSort (before l) L).mem_iff.mp hb)) (sort_ordered l L h.2)

/-- A place before another in the sort holds the greater logit. -/
theorem sorted_ahead (l : Fin 8 → EReal) (i j : Fin 8) (h : i < j) : Ahead l (sortedFrom (before l) i) (sortedFrom (before l) j) := by
  have hp : ∀ a b : Fin (sortPositions 8 (before l)).length, a < b →
      Ahead l ((sortPositions 8 (before l)).get a) ((sortPositions 8 (before l)).get b) :=
    List.pairwise_iff_get.mp (sort_ordered l (List.finRange 8) (List.pairwise_lt_finRange 8))
  unfold sortedFrom
  exact hp _ _ (by simp only [Fin.lt_def, Fin.val_cast]; exact h)

/-- The first is ahead of every other. -/
theorem first_ahead (l : Fin 8 → EReal) (j : Fin 8) (h : j ≠ first l) : Ahead l (first l) j := by
  obtain ⟨k, rfl⟩ := sortedFrom_surjective (before l) j
  exact sorted_ahead l 0 k (Fin.pos_iff_ne_zero.mpr fun e => h (by rw [e]; rfl))

/-- The second is ahead of all but the first. -/
theorem second_ahead (l : Fin 8 → EReal) (j : Fin 8) (h : j ≠ first l) (h' : j ≠ second l) : Ahead l (second l) j := by
  obtain ⟨k, rfl⟩ := sortedFrom_surjective (before l) j
  refine sorted_ahead l 1 k (lt_of_le_of_ne (Fin.one_le_of_ne_zero fun e => h (by rw [e]; rfl)) fun e => h' (by rw [← e]; rfl))

theorem second_ne (l : Fin 8 → EReal) : second l ≠ first l := fun h =>
  absurd (sortedFrom_injective (before l) h) (by decide)

theorem first_le (l : Fin 8 → EReal) (j : Fin 8) : l j ≤ l (first l) := by
  by_cases h : j = first l
  · rw [h]
  · exact (first_ahead l j h).elim le_of_lt fun h => h.1.le

theorem second_le (l : Fin 8 → EReal) (j : Fin 8) (h : j ≠ first l) : l j ≤ l (second l) := by
  by_cases h' : j = second l
  · rw [h']
  · exact (second_ahead l j h h').elim le_of_lt fun h => h.1.le

/-! ## The gates -/

/-- The second greatest's share over the greatest's. -/
def ratio (l : Fin 8 → EReal) : EReal := Ideal.exp (l (second l) - l (first l))

/-- Each expert's gate. -/
def gate (l : Fin 8 → EReal) (e : Fin 8) : EReal :=
  if e = first l then Ideal.div 1 (1 + ratio l) else if e = second l then Ideal.div (ratio l) (1 + ratio l) else 0

/-! ## Picked by maxima -/

theorem negInf : Ideal.ofBits .f32 (0xFF800000#32) = ⊥ := by
  simp [Ideal.ofBits, Ideal.ieee]

/-- A row's maximum, when index `i` attains it. -/
theorem max_eq (l : Fin 8 → EReal) (i : Fin 8) (h : ∀ j, l j ≤ l i) : Finset.univ.fold max (Ideal.ofBits .f32 (0xFF800000#32)) l = l i := by
  rw [negInf]
  exact le_antisymm (Finset.fold_max_le _ |>.mpr ⟨bot_le, fun j _ => h j⟩) (Finset.le_fold_max _ |>.mpr (.inr ⟨i, Finset.mem_univ i, le_refl _⟩))

/-- The least index with a property, by a minimum over the indices, eight standing for "not here". -/
theorem least (p : Fin 8 → Bool) (i : Fin 8) (h : p i = true) (h' : ∀ j, p j = true → i ≤ j) :
    Finset.univ.fold IntOp.minsi (2147483647#32) (fun k : Fin 8 => if p k = true then BitVec.ofNat 32 k.val else 8#32) = BitVec.ofNat 32 i.val := by
  have key : ∀ b0 b1 b2 b3 b4 b5 b6 b7 : Bool, ∀ i : Fin 8, (![b0, b1, b2, b3, b4, b5, b6, b7] : Fin 8 → Bool) i = true →
      (∀ j, (![b0, b1, b2, b3, b4, b5, b6, b7] : Fin 8 → Bool) j = true → i ≤ j) →
      Finset.univ.fold IntOp.minsi (2147483647#32) (fun k : Fin 8 => if (![b0, b1, b2, b3, b4, b5, b6, b7] : Fin 8 → Bool) k = true then BitVec.ofNat 32 k.val else 8#32) = BitVec.ofNat 32 i.val := by
    decide +kernel
  have hp : p = ![p 0, p 1, p 2, p 3, p 4, p 5, p 6, p 7] := by
    funext k; fin_cases k <;> rfl
  rw [hp] at h h' ⊢
  exact key _ _ _ _ _ _ _ _ i h h'

theorem ofNat_inj (a b : Fin 8) : (BitVec.ofNat 32 a.val = BitVec.ofNat 32 b.val) ↔ a = b := by
  revert a b; decide

theorem eq_word {α : Type} (a b : Fin 8) (x y : α) :
    Scalar.select (IntOp.cmpi .eq (BitVec.ofNat 32 a.val) (BitVec.ofNat 32 b.val)) x y = if a = b then x else y := by
  have h : IntOp.cmpi .eq (BitVec.ofNat 32 a.val) (BitVec.ofNat 32 b.val) = BitVec.ofBool (decide (a = b)) := by
    revert a b; decide
  rw [h]
  by_cases e : a = b
  · simp [e, Scalar.select]
  · simp [e, Scalar.select]

/-- The least index reaching the maximum, -/
theorem pick_first (l : Fin 8 → EReal) :
    Finset.univ.fold IntOp.minsi (2147483647#32) (fun k : Fin 8 => if l (first l) ≤ l k then BitVec.ofNat 32 k.val else 8#32)
      = BitVec.ofNat 32 (first l).val := by
  have h := least (fun k => decide (l (first l) ≤ l k)) (first l) (decide_eq_true (le_refl _)) fun j hj => by
    by_cases e : j = first l
    · rw [e]
    · rcases first_ahead l j e with h | ⟨_, h⟩
      · exact absurd (of_decide_eq_true hj) (not_le.mpr h)
      · exact h.le
  simpa only [decide_eq_true_eq] using h

/-- and, that one struck out, the least index reaching the maximum of the rest. -/
theorem pick_second (l : Fin 8 → EReal) (hl : l (second l) ≠ ⊥) :
    Finset.univ.fold IntOp.minsi (2147483647#32) (fun k : Fin 8 => if l (second l) ≤ (if k = first l then ⊥ else l k) then BitVec.ofNat 32 k.val else 8#32)
      = BitVec.ofNat 32 (second l).val := by
  have h := least (fun k => decide (l (second l) ≤ (if k = first l then ⊥ else l k))) (second l)
    (decide_eq_true (by rw [if_neg (second_ne l)])) fun j hj => by
      by_cases e : j = first l
      · rw [if_pos e] at hj
        exact absurd (le_bot_iff.mp (of_decide_eq_true hj)) hl
      · rw [if_neg e] at hj
        by_cases e' : j = second l
        · rw [e']
        · rcases second_ahead l j e e' with h | ⟨_, h⟩
          · exact absurd (of_decide_eq_true hj) (not_le.mpr h)
          · exact h.le
  simpa only [decide_eq_true_eq] using h

theorem max_rest (l : Fin 8 → EReal) :
    Finset.univ.fold max (Ideal.ofBits .f32 (0xFF800000#32)) (fun k : Fin 8 => if k = first l then ⊥ else l k) = l (second l) := by
  refine (max_eq (fun k : Fin 8 => if k = first l then ⊥ else l k) (second l) fun j => ?_).trans (if_neg (second_ne l))
  show (if j = first l then ⊥ else l j) ≤ (if second l = first l then ⊥ else l (second l))
  rw [if_neg (second_ne l)]
  split
  · exact bot_le
  · exact second_le l j ‹_›

end Cert.Moe
end
-- ==== Proof.Row.lean ====
module
public import proofs.«01_k».proof.Proof.Gates
public import proofs.«01_k».proof.Proof.Layers

/-!
# One row of the result

The whole of the reference for one row, `out`, and the same row in the kernel's order, `kernelOut`; equal when every entry is
real.
-/

@[expose] public section
noncomputable section
namespace Cert.Moe
open Idealize.ShloMosaic
open scoped BigOperators

/-- The weights, by their indices. -/
structure Weights where
  wg1 : Fin 256 → Fin 8 → EReal
  w1a : Fin 8 → Fin 256 → Fin 20 → EReal
  b1a : Fin 8 → Fin 20 → EReal
  w1b : Fin 8 → Fin 20 → Fin 3136 → EReal
  b1b : Fin 8 → Fin 3136 → EReal
  wg2 : Fin 3136 → Fin 8 → EReal
  w2a : Fin 8 → Fin 3136 → Fin 20 → EReal
  b2a : Fin 8 → Fin 20 → EReal
  w2b : Fin 8 → Fin 20 → Fin 93312 → EReal
  b2b : Fin 8 → Fin 93312 → EReal
  wf1 : Fin 93312 → Fin 128 → EReal
  bf1 : Fin 128 → EReal
  wf2 : Fin 128 → Fin 10 → EReal
  bf2 : Fin 10 → EReal

/-- Every weight is real. -/
structure Weights.Real (w : Weights) : Prop where
  wg1 : ∀ i j, Moe.Real (w.wg1 i j)
  w1a : ∀ i j k, Moe.Real (w.w1a i j k)
  b1a : ∀ i j, Moe.Real (w.b1a i j)
  w1b : ∀ i j k, Moe.Real (w.w1b i j k)
  b1b : ∀ i j, Moe.Real (w.b1b i j)
  wg2 : ∀ i j, Moe.Real (w.wg2 i j)
  w2a : ∀ i j k, Moe.Real (w.w2a i j k)
  b2a : ∀ i j, Moe.Real (w.b2a i j)
  w2b : ∀ i j k, Moe.Real (w.w2b i j k)
  b2b : ∀ i j, Moe.Real (w.b2b i j)
  wf1 : ∀ i j, Moe.Real (w.wf1 i j)
  bf1 : ∀ i, Moe.Real (w.bf1 i)
  wf2 : ∀ i j, Moe.Real (w.wf2 i j)
  bf2 : ∀ i, Moe.Real (w.bf2 i)

variable (w : Weights) (x : Fin 256 → EReal)

/-- The first layer's output. -/
def layer1 : Fin 3136 → EReal := mix (gate (rowDot x w.wg1)) (hidden x w.w1a w.b1a) w.w1b w.b1b

/-- The second layer's output. -/
def layer2 : Fin 93312 → EReal := mix (gate (rowDot (layer1 w x) w.wg2)) (hidden (layer1 w x) w.w2a w.b2a) w.w2b w.b2b

/-- The head's logits over the head's first product. -/
def logits (a : Fin 128 → EReal) (j : Fin 10) : EReal := ∑ f, max (a f + w.bf1 f) 0 * w.wf2 f j + w.bf2 j

/-- The greatest of them. -/
def top (y : Fin 10 → EReal) : EReal := Finset.univ.fold max (Ideal.ofBits .f32 (0xFF800000#32)) y

/-- The row of the reference. -/
def out (j : Fin 10) : EReal :=
  logSoftmax (top (logits w (rowDot (layer2 w x) w.wf1))) (logits w (rowDot (layer2 w x) w.wf1)) j

/-- The head's first product as the kernel has it. -/
def kernelHead (f : Fin 128) : EReal :=
  (∑ e, ∑ k, hidden (layer1 w x) w.w2a w.b2a e k * gate (rowDot (layer1 w x) w.wg2) e * ∑ n, w.w2b e k n * w.wf1 n f)
    + ∑ e, gate (rowDot (layer1 w x) w.wg2) e * ∑ n, w.b2b e n * w.wf1 n f

/-- The row of the kernel. -/
def kernelOut (j : Fin 10) : EReal :=
  logits w (kernelHead w x) j - (top (logits w (kernelHead w x)) + Ideal.log (∑ i, Ideal.exp (logits w (kernelHead w x) i - top (logits w (kernelHead w x)))))

/-! ## Real throughout -/

theorem real_dot {I O : ℕ} {x : Fin I → EReal} {W : Fin I → Fin O → EReal} (hx : ∀ i, Real (x i)) (hW : ∀ i j, Real (W i j)) (o : Fin O) :
    Real (rowDot x W o) := Real.sum _ _ fun i => (hx i).mul (hW i o)

theorem real_hidden {I : ℕ} {x : Fin I → EReal} {Wa : Fin 8 → Fin I → Fin 20 → EReal} {ba : Fin 8 → Fin 20 → EReal} (hx : ∀ i, Real (x i))
    (hW : ∀ e i k, Real (Wa e i k)) (hb : ∀ e k, Real (ba e k)) (e : Fin 8) (k : Fin 20) : Real (hidden x Wa ba e k) :=
  ((Real.sum _ _ fun i => (hx i).mul (hW e i k)).add (hb e k)).max Real.zero

theorem real_mix {O : ℕ} {g : Fin 8 → EReal} {h : Fin 8 → Fin 20 → EReal} {Wb : Fin 8 → Fin 20 → Fin O → EReal} {bb : Fin 8 → Fin O → EReal}
    (hg : ∀ e, Real (g e)) (hh : ∀ e k, Real (h e k)) (hW : ∀ e k o, Real (Wb e k o)) (hb : ∀ e o, Real (bb e o)) (o : Fin O) :
    Real (mix g h Wb bb o) :=
  Real.sum _ _ fun e => (Real.sum _ _ fun k => ((hg e).mul (hh e k)).mul (hW e k o)).add ((hg e).mul (hb e o))

theorem real_gate {l : Fin 8 → EReal} (hl : ∀ e, Real (l e)) (e : Fin 8) : Real (gate l e) := by
  obtain ⟨r, hr, hr'⟩ := ((hl (second l)).sub (hl (first l))).exp
  have hd : ∃ s : ℝ, 0 < s ∧ 1 + ratio l = (s : EReal) := ⟨1 + r, by linarith, by unfold ratio; rw [hr']; rfl⟩
  unfold gate
  split
  · exact Real.one.div hd
  · split
    · exact Real.div ⟨r, hr'⟩ hd
    · exact Real.zero

theorem real_logits {w : Weights} (hw : w.Real) {a : Fin 128 → EReal} (ha : ∀ f, Real (a f)) (j : Fin 10) : Real (logits w a j) :=
  (Real.sum _ _ fun f => (((ha f).add (hw.bf1 f)).max Real.zero).mul (hw.wf2 f j)).add (hw.bf2 j)

theorem real_top {y : Fin 10 → EReal} (hy : ∀ j, Real (y j)) : Real (top y) := by
  obtain ⟨i, _, hi⟩ := Finset.exists_max_image Finset.univ y ⟨0, Finset.mem_univ _⟩
  have h : top y = y i := by
    unfold top
    rw [negInf]
    exact le_antisymm (Finset.fold_max_le _ |>.mpr ⟨bot_le, hi⟩) (Finset.le_fold_max _ |>.mpr (.inr ⟨i, Finset.mem_univ i, le_refl _⟩))
  rw [h]; exact hy i

section
variable {w x} (hw : w.Real) (hx : ∀ i, Real (x i))
include hw hx

theorem real_logits1 (e : Fin 8) : Real (rowDot x w.wg1 e) := real_dot hx hw.wg1 e

theorem real_layer1 (o : Fin 3136) : Real (layer1 w x o) :=
  real_mix (real_gate (real_logits1 hw hx)) (real_hidden hx hw.w1a hw.b1a) hw.w1b hw.b1b o

theorem real_logits2 (e : Fin 8) : Real (rowDot (layer1 w x) w.wg2 e) := real_dot (real_layer1 hw hx) hw.wg2 e

/-- The kernel's row is the reference's. -/
theorem kernelOut_eq (j : Fin 10) : kernelOut w x j = out w x j := by
  have hg := real_gate (real_logits2 hw hx)
  have hh := real_hidden (real_layer1 hw hx) hw.w2a hw.b2a
  have hhead : kernelHead w x = rowDot (layer2 w x) w.wf1 := funext fun f =>
    head_eq _ _ _ _ _ hg hh hw.w2b hw.b2b hw.wf1 f
  have hy := real_logits hw (fun f => real_dot (real_mix hg hh hw.w2b hw.b2b) hw.wf1 f)
  unfold kernelOut
  rw [hhead]
  exact logSoftmax_eq _ _ (real_top hy) hy j

end
end Cert.Moe
end
-- ==== Proof.Block.lean ====
module
public import proofs.«01_k».proof.Proof.Row
public import proofs.«01_k».proof.Proof.MainBody

/-!
# What one block computes

A row of a block of the main call, over extended reals.
-/

@[expose] public section
set_option maxRecDepth 16384
noncomputable section
namespace Cert.KernelIdeal.MainCall
open Idealize.ShloMosaic Cert.KernelIdeal Cert.KernelIdeal.Gen Cert.Moe
open scoped BigOperators

/-- Row `r` of a matrix. -/
abbrev rowOf {a b : ℕ} (x : (⟨2, ![a, b]⟩ : Shape).Idx → EReal) (r : Fin a) : Fin b → EReal := fun i => x (ix2 r i)
/-- A matrix by its two indices. -/
abbrev mat {a b : ℕ} (x : (⟨2, ![a, b]⟩ : Shape).Idx → EReal) : Fin a → Fin b → EReal := fun i j => x (ix2 i j)

/-- The greatest logit. -/
abbrev greatest (l : Fin 8 → EReal) : EReal := Finset.fold max (Ideal.ofBits FTy.f32 4286578688#32) l Finset.univ
/-- The least index that reaches it, as a word. -/
abbrev least (l : Fin 8 → EReal) : BitVec 32 :=
  Finset.fold IntOp.minsi (2147483647#32) (fun k : Fin 8 => if greatest l ≤ l k then BitVec.ofNat 32 ↑k else 8#32) Finset.univ
/-- The logits with that index struck out. -/
abbrev struck (l : Fin 8 → EReal) (k : Fin 8) : EReal :=
  Scalar.select (IntOp.cmpi CmpIPredicate.eq (BitVec.ofNat 32 ↑k) (least l)) (Ideal.ofBits FTy.f32 4286578688#32) (l k)

/-- The gates by maxima and least indices. -/
theorem picked (l : Fin 8 → EReal) (hl : ∀ e, Real (l e)) (e : Fin 8) :
    Scalar.select (IntOp.cmpi CmpIPredicate.eq (BitVec.ofNat 32 ↑e) (least l))
      (Ideal.div 1 (1 + Ideal.exp (greatest (struck l) - greatest l)))
      (Scalar.select (IntOp.cmpi CmpIPredicate.eq (BitVec.ofNat 32 ↑e) (least (struck l)))
        (Ideal.div (Ideal.exp (greatest (struck l) - greatest l)) (1 + Ideal.exp (greatest (struck l) - greatest l))) 0)
      = gate l e := by
  have hmax : greatest l = l (first l) := max_eq l _ (first_le l)
  have hleast : least l = BitVec.ofNat 32 (first l).val := by unfold least; rw [hmax]; exact pick_first l
  have hstruck : struck l = fun k => if k = first l then ⊥ else l k := funext fun k => by
    unfold struck; rw [hleast, eq_word, ← negInf]
  have hrest : greatest (struck l) = l (second l) := by rw [hstruck]; exact max_rest l
  have hsecond : least (struck l) = BitVec.ofNat 32 (second l).val := by
    unfold least; rw [hrest, hstruck]; exact pick_second l (hl _).ne_bot
  rw [hrest, hsecond, hmax, hleast, eq_word, eq_word]
  rfl

/-- The first layer's gates of a row. -/
theorem gates1 (x0 : Vec Ideal S256x256 .f32) (x1 : Vec Ideal S256x8 .f32) (r : Fin 256) (h : ∀ e, Real (rowDot (rowOf x0 r) (mat x1) e)) (e : Fin 8) :
    k1_pay3 x0 x1 (ix2 r e) = gate (rowDot (rowOf x0 r) (mat x1)) e := by
  unfold k1_pay3
  pointwise
  exact picked (fun e => ∑ i, x0 (ix2 r i) * x1 (ix2 i e)) h e

/-- The table that spreads a gate over its expert's hidden units. -/
def Table (t : S8x160.Idx → EReal) : Prop := ∀ (e : Fin 8) (q : Fin 160), t (ix2 e q) = if (⟨q.val / 20, by omega⟩ : Fin 8) = e then 1 else 0

/-- The first layer's output of a row. -/
theorem hidden1 (x0 : Vec Ideal S256x256 .f32) (t : Vec Ideal S8x160 .f32) (g : FVec Ideal S256x8 .f32) (x2 : Vec Ideal S256x160 .f32)
    (x3 : Vec Ideal S1x160 .f32) (x4 : Vec Ideal S160x3136 .f32) (x5 : Vec Ideal S8x3136 .f32) (ht : Table t)
    (Wa : Fin 8 → Fin 256 → Fin 20 → EReal) (ba : Fin 8 → Fin 20 → EReal) (Wb : Fin 8 → Fin 20 → Fin 3136 → EReal)
    (h2 : ∀ i (q : Fin 160), x2 (ix2 i q) = Wa ⟨q.val / 20, by omega⟩ i ⟨q.val % 20, by omega⟩)
    (h3 : ∀ q : Fin 160, x3 (ix2 0 q) = ba ⟨q.val / 20, by omega⟩ ⟨q.val % 20, by omega⟩)
    (h4 : ∀ (q : Fin 160) o, x4 (ix2 q o) = Wb ⟨q.val / 20, by omega⟩ ⟨q.val % 20, by omega⟩ o)
    (r : Fin 256) (o : Fin 3136) :
    k1_pay4 x0 (k1_pay2 t) g x2 x3 x4 x5 (ix2 r o) = mix (rowOf g r) (hidden (rowOf x0 r) Wa ba) Wb (mat x5) o := by
  unfold k1_pay4 k1_pay2
  pointwise
  rw [← mix_eq, ← sum_units]
  simp only [ht _ _, h2, h3, h4, spread]
  rfl

/-- The logits of the second layer's gates. -/
theorem logits2 (x0 : Vec Ideal S256x256 .f32) (t : FVec Ideal S8x160 .f32) (g : FVec Ideal S256x8 .f32) (x2 : Vec Ideal S256x160 .f32)
    (x3 : Vec Ideal S1x160 .f32) (x4 : Vec Ideal S160x3136 .f32) (x5 : Vec Ideal S8x3136 .f32) (x6 : Vec Ideal S3136x8 .f32)
    (r : Fin 256) (e : Fin 8) :
    k1_pay5 x0 t g x2 x3 x4 x5 x6 (ix2 r e) = rowDot (rowOf (k1_pay4 x0 t g x2 x3 x4 x5) r) (mat x6) e := by
  unfold k1_pay5
  pointwise
  rfl

/-- The head's first product and bias of a row, from the first layer's output `y` of that row. -/
theorem head1 (x0 : Vec Ideal S256x256 .f32) (t : Vec Ideal S8x160 .f32) (g : FVec Ideal S256x8 .f32) (x2 : Vec Ideal S256x160 .f32)
    (x3 : Vec Ideal S1x160 .f32) (x4 : Vec Ideal S160x3136 .f32) (x5 : Vec Ideal S8x3136 .f32) (x6 : Vec Ideal S3136x8 .f32)
    (x7 : Vec Ideal S3136x160 .f32) (x8 : Vec Ideal S1x160 .f32) (x9 : Vec Ideal S160x128 .f32) (x10 : Vec Ideal S8x128 .f32) (x12 : Vec Ideal S1x128 .f32)
    (ht : Table t) (r : Fin 256) (y : Fin 3136 → EReal) (hy : ∀ o, k1_pay4 x0 (k1_pay2 t) g x2 x3 x4 x5 (ix2 r o) = y o)
    (hl : ∀ e, Real (rowDot y (mat x6) e))
    (Wa : Fin 8 → Fin 3136 → Fin 20 → EReal) (ba : Fin 8 → Fin 20 → EReal) (M : Fin 8 → Fin 20 → Fin 128 → EReal)
    (h7 : ∀ i (q : Fin 160), x7 (ix2 i q) = Wa ⟨q.val / 20, by omega⟩ i ⟨q.val % 20, by omega⟩)
    (h8 : ∀ q : Fin 160, x8 (ix2 0 q) = ba ⟨q.val / 20, by omega⟩ ⟨q.val % 20, by omega⟩)
    (h9 : ∀ (q : Fin 160) o, x9 (ix2 q o) = M ⟨q.val / 20, by omega⟩ ⟨q.val % 20, by omega⟩ o) (f : Fin 128) :
    k1_pay11 (k1_pay2 t) (k1_pay4 x0 (k1_pay2 t) g x2 x3 x4 x5) (iota .tc S256x8 32 [1] iota_S256x8_d1_w32)
      (k1_pay6 x0 (k1_pay2 t) g x2 x3 x4 x5 x6) (k1_pay7 x0 (k1_pay2 t) g x2 x3 x4 x5 x6) (k1_pay9 x0 (k1_pay2 t) g x2 x3 x4 x5 x6)
      (k1_pay10 x0 (k1_pay2 t) g x2 x3 x4 x5 x6) x7 x8 x9 x10 x12 (ix2 r f)
    = (∑ e, ∑ k, Moe.hidden y Wa ba e k * gate (rowDot y (mat x6)) e * M e k f) + (∑ e, gate (rowDot y (mat x6)) e * x10 (ix2 e f)) + x12 (ix2 0 f) := by
  have hL : ∀ e, k1_pay5 x0 (k1_pay2 t) g x2 x3 x4 x5 x6 (ix2 r e) = rowDot y (mat x6) e := fun e => by
    rw [logits2]; unfold rowDot rowOf; simp only [hy]
  have hP := picked (rowDot y (mat x6)) hl
  have ht' : ∀ e q, k1_pay2 t (ix2 e q) = t (ix2 e q) := fun e q => by unfold k1_pay2; pointwise
  generalize rowDot y (mat x6) = l at *
  rw [← sum_units]
  unfold k1_pay11 k1_pay10 k1_pay9 k1_pay8 k1_pay7 k1_pay6
  pointwise
  simp only [hy, hL, ht', ht _ _, h7, h8, h9]
  simp only [greatest, least, struck] at hP
  simp only [hP, spread]
  rfl

/-- The head's second product, its bias and its log-softmax, of a row. -/
theorem head2 (h : FVec Ideal S256x128 .f32) (x13 : Vec Ideal S128x10 .f32) (x14 : Vec Ideal S1x10 .f32) (w : Weights)
    (h13 : ∀ i j, x13 (ix2 i j) = w.wf2 i j) (h14 : ∀ j, x14 (ix2 0 j) = w.bf2 j) (r : Fin 256) (a : Fin 128 → EReal)
    (hh : ∀ f, h (ix2 r f) = a f + w.bf1 f) (j : Fin 10) :
    k1_pay1 h (Scalar.ofBits .f32 0x00000000#32) x13 x14 (ix2 r j)
      = logits w a j - (top (logits w a) + Ideal.log (∑ i, Ideal.exp (logits w a i - top (logits w a)))) := by
  unfold k1_pay1
  pointwise
  simp only [hh, h13, h14]
  rfl

/-- What the arrays the main call reads hold, in terms of the weights. -/
structure Reads (w : Weights) (x1 : Vec Ideal S256x8 .f32) (x2 : Vec Ideal S256x160 .f32)
    (x3 : Vec Ideal S1x160 .f32) (x4 : Vec Ideal S160x3136 .f32) (x5 : Vec Ideal S8x3136 .f32) (x6 : Vec Ideal S3136x8 .f32)
    (x7 : Vec Ideal S3136x160 .f32) (x8 : Vec Ideal S1x160 .f32) (x9 : Vec Ideal S160x128 .f32) (x10 : Vec Ideal S8x128 .f32)
    (x11 : Vec Ideal S8x160 .f32) (x12 : Vec Ideal S1x128 .f32) (x13 : Vec Ideal S128x10 .f32) (x14 : Vec Ideal S1x10 .f32) : Prop where
  wg1 : ∀ i j, x1 (ix2 i j) = w.wg1 i j
  w1a : ∀ i (q : Fin 160), x2 (ix2 i q) = w.w1a ⟨q.val / 20, by omega⟩ i ⟨q.val % 20, by omega⟩
  b1a : ∀ q : Fin 160, x3 (ix2 0 q) = w.b1a ⟨q.val / 20, by omega⟩ ⟨q.val % 20, by omega⟩
  w1b : ∀ (q : Fin 160) o, x4 (ix2 q o) = w.w1b ⟨q.val / 20, by omega⟩ ⟨q.val % 20, by omega⟩ o
  b1b : ∀ e o, x5 (ix2 e o) = w.b1b e o
  wg2 : ∀ i j, x6 (ix2 i j) = w.wg2 i j
  w2a : ∀ i (q : Fin 160), x7 (ix2 i q) = w.w2a ⟨q.val / 20, by omega⟩ i ⟨q.val % 20, by omega⟩
  b2a : ∀ q : Fin 160, x8 (ix2 0 q) = w.b2a ⟨q.val / 20, by omega⟩ ⟨q.val % 20, by omega⟩
  m2 : ∀ (q : Fin 160) f, x9 (ix2 q f) = ∑ n, w.w2b ⟨q.val / 20, by omega⟩ ⟨q.val % 20, by omega⟩ n * w.wf1 n f
  v2 : ∀ e f, x10 (ix2 e f) = ∑ n, w.b2b e n * w.wf1 n f
  table : Table x11
  bf1 : ∀ f, x12 (ix2 0 f) = w.bf1 f
  wf2 : ∀ i j, x13 (ix2 i j) = w.wf2 i j
  bf2 : ∀ j, x14 (ix2 0 j) = w.bf2 j

/-- A row of the main call's block is the kernel's row of that row of its input. -/
theorem blockOut_row (w : Weights) (x0 x1 x2 x3 x4 x5 x6 x7 x8 x9 x10 x11 x12 x13 x14)
    (h : Reads w x1 x2 x3 x4 x5 x6 x7 x8 x9 x10 x11 x12 x13 x14) (hw : w.Real) (r : Fin 256) (hx : ∀ i, Real (rowOf x0 r i)) (j : Fin 10) :
    blockOut (F := Ideal) x0 x1 x2 x3 x4 x5 x6 x7 x8 x9 x10 x11 x12 x13 x14 (ix2 r j) = kernelOut w (rowOf x0 r) j := by
  have e1 : mat x1 = w.wg1 := funext fun i => funext fun j => h.wg1 i j
  have e5 : mat x5 = w.b1b := funext fun i => funext fun j => h.b1b i j
  have e6 : mat x6 = w.wg2 := funext fun i => funext fun j => h.wg2 i j
  have g1 : rowOf (k1_pay3 x0 x1) r = gate (rowDot (rowOf x0 r) w.wg1) := funext fun e => by
    rw [← e1]; exact gates1 x0 x1 r (fun e => by rw [e1]; exact real_logits1 hw hx e) e
  have y1 : ∀ o, k1_pay4 x0 (k1_pay2 x11) (k1_pay3 x0 x1) x2 x3 x4 x5 (ix2 r o) = layer1 w (rowOf x0 r) o := fun o => by
    rw [hidden1 (ht := h.table) (h2 := h.w1a) (h3 := h.b1a) (h4 := h.w1b), g1, e5]; rfl
  have a1 := fun f => head1 x0 x11 (k1_pay3 x0 x1) x2 x3 x4 x5 x6 x7 x8 x9 x10 x12 h.table r (layer1 w (rowOf x0 r)) y1
    (fun e => by rw [e6]; exact real_logits2 hw hx e) w.w2a w.b2a (fun e k f => ∑ n, w.w2b e k n * w.wf1 n f) h.w2a h.b2a h.m2 f
  have a2 : ∀ f, _ = kernelHead w (rowOf x0 r) f + w.bf1 f := fun f => by
    refine (a1 f).trans ?_
    rw [h.bf1, e6]
    simp only [h.v2]
    rfl
  exact head2 _ _ _ w h.wf2 h.bf2 r (kernelHead w (rowOf x0 r)) a2 j

end Cert.KernelIdeal.MainCall
end
-- ==== Proof.Arguments.lean ====
module
public import proofs.«01_k».proof.Proof.Row
public import Idealize.ShloMosaic.Lib.Pointwise

/-!
# The arguments as weights
-/

@[expose] public section
noncomputable section
namespace Cert.Moe
open Idealize.ShloMosaic

/-- An array of extended reals of two axes, -/
abbrev A2 (a b : ℕ) : Type := (⟨2, ![a, b]⟩ : Shape).Idx → EReal
/-- of three, -/
abbrev A3 (a b c : ℕ) : Type := (⟨3, ![a, b, c]⟩ : Shape).Idx → EReal
/-- and of one. -/
abbrev A1 (a : ℕ) : Type := (⟨1, ![a]⟩ : Shape).Idx → EReal

/-- The weights that the arguments after the first hold. -/
def weightsOf (a1 : A2 256 8) (a2 : A3 8 256 20) (a3 : A2 8 20) (a4 : A3 8 20 3136) (a5 : A2 8 3136) (a6 : A2 3136 8) (a7 : A3 8 3136 20)
    (a8 : A2 8 20) (a9 : A3 8 20 93312) (a10 : A2 8 93312) (a11 : A2 93312 128) (a12 : A1 128) (a13 : A2 128 10) (a14 : A1 10) : Weights where
  wg1 i j := a1 (ix2 i j)
  w1a i j k := a2 (ix3 i j k)
  b1a i j := a3 (ix2 i j)
  w1b i j k := a4 (ix3 i j k)
  b1b i j := a5 (ix2 i j)
  wg2 i j := a6 (ix2 i j)
  w2a i j k := a7 (ix3 i j k)
  b2a i j := a8 (ix2 i j)
  w2b i j k := a9 (ix3 i j k)
  b2b i j := a10 (ix2 i j)
  wf1 i j := a11 (ix2 i j)
  bf1 i := a12 (ix1 i)
  wf2 i j := a13 (ix2 i j)
  bf2 i := a14 (ix1 i)

end Cert.Moe
end
-- ==== Proof.KernelValue.lean ====
module
public import proofs.«01_k».proof.Proof.WholeRun
public import proofs.«01_k».proof.Proof.PrecomputeValue
public import proofs.«01_k».proof.Proof.Block
public import proofs.«01_k».proof.Proof.Arguments
public import Idealize.ShloMosaic.Lib.StableHlo.ReadAt

/-!
# The kernel's result, entry by entry

What the host operations leave in the arrays of the main call, and from it the result array of the whole kernel.
-/

@[expose] public section
set_option maxRecDepth 16384
noncomputable section
namespace Cert.KernelIdeal.Whole
open Idealize.ShloMosaic Idealize.ShloMosaic.TcCoe Cert.KernelIdeal Cert.KernelIdeal.Gen
open Moe (A1 A2 A3)
open scoped BigOperators

/-! ## The host operations -/

section Host
variable (V : Valuation τ sig (Elt Ideal))

theorem m2_host (q : Fin 160) (f : Fin 128) :
    (StableHlo.after hostOps1 V (Proc.devRef .tc main_v1) : A2 160 128) (ix2 q f)
      = (V (Proc.devRef .tc main_v0_0) : A3 8 20 128) (ix3 ⟨q.val / 20, by omega⟩ ⟨q.val % 20, by omega⟩ f) := by
  after_reads_at
  all_goals rfl

theorem w1a_host (i : Fin 256) (q : Fin 160) :
    (StableHlo.after hostOps1 V (Proc.devRef .tc main_v3) : A2 256 160) (ix2 i q)
      = (V (Proc.devRef .tc main_arg2) : A3 8 256 20) (ix3 ⟨q.val / 20, by omega⟩ i ⟨q.val % 20, by omega⟩) := by
  after_reads_at
  all_goals rfl

theorem w1b_host (q : Fin 160) (o : Fin 3136) :
    (StableHlo.after hostOps1 V (Proc.devRef .tc main_v4) : A2 160 3136) (ix2 q o)
      = (V (Proc.devRef .tc main_arg4) : A3 8 20 3136) (ix3 ⟨q.val / 20, by omega⟩ ⟨q.val % 20, by omega⟩ o) := by
  after_reads_at
  all_goals rfl

theorem w2a_host (i : Fin 3136) (q : Fin 160) :
    (StableHlo.after hostOps1 V (Proc.devRef .tc main_v6) : A2 3136 160) (ix2 i q)
      = (V (Proc.devRef .tc main_arg7) : A3 8 3136 20) (ix3 ⟨q.val / 20, by omega⟩ i ⟨q.val % 20, by omega⟩) := by
  after_reads_at
  all_goals rfl

theorem b1a_host (q : Fin 160) :
    (StableHlo.after hostOps1 V (Proc.devRef .tc main_v15) : A2 1 160) (ix2 0 q)
      = (V (Proc.devRef .tc main_arg3) : A2 8 20) (ix2 ⟨q.val / 20, by omega⟩ ⟨q.val % 20, by omega⟩) := by
  after_reads_at
  all_goals rfl

theorem b2a_host (q : Fin 160) :
    (StableHlo.after hostOps1 V (Proc.devRef .tc main_v16) : A2 1 160) (ix2 0 q)
      = (V (Proc.devRef .tc main_arg8) : A2 8 20) (ix2 ⟨q.val / 20, by omega⟩ ⟨q.val % 20, by omega⟩) := by
  after_reads_at
  all_goals rfl

theorem bf1_host (f : Fin 128) :
    (StableHlo.after hostOps1 V (Proc.devRef .tc main_v17) : A2 1 128) (ix2 0 f) = (V (Proc.devRef .tc main_arg12) : A1 128) (ix1 f) := by
  after_reads_at
  all_goals rfl

theorem bf2_host (j : Fin 10) :
    (StableHlo.after hostOps1 V (Proc.devRef .tc main_v18) : A2 1 10) (ix2 0 j) = (V (Proc.devRef .tc main_arg14) : A1 10) (ix1 j) := by
  after_reads_at
  all_goals rfl

theorem table_host : MainCall.Table (StableHlo.after hostOps1 V (Proc.devRef .tc main_v14)) := by
  intro e q
  after_reads_at
  have h : ∀ a b : Fin 8, IntOp.cmpi .eq (IntOp.addi (BitVec.ofNat 32 a.val) 0#32) (BitVec.ofNat 32 b.val) = if b = a then 1#1 else 0#1 := by
    decide
  rw [h e ⟨q.val / 20, by omega⟩]
  split
  · show (((1#1 : BitVec 1).toNat : ℝ) : EReal) = 1
    norm_num
  · show (((0#1 : BitVec 1).toNat : ℝ) : EReal) = 0
    norm_num

end Host

/-! ## The windows -/

/-- All but the first and the last window stand still, at the origin. -/
theorem still : ∀ w : Fin cfg1.W, w ≠ 0 → w ≠ 15 → ∀ (t : Fin cfg1.N) a, (cfg1.win w).index t a = 0 := by decide

/-- Such a window reads its whole array as it stands. -/
theorem place (w : Fin cfg1.W) (h0 : w ≠ 0) (h15 : w ≠ 15) (t : Fin cfg1.N) (j a) :
    (((cfg1.win w).rect t).emb j a : Nat) = j a := by
  have hv := (cfg1.win w).rect_emb_val t j a ((by decide : ∀ w : Fin cfg1.W, (cfg1.win w).kind = Pipeline.WinKind.blocked) w)
  rwa [still w h0 h15 t a, Nat.zero_mul, Nat.zero_add] at hv

/-- The first and the last window move down by blocks of 256 rows. -/
theorem moving : ∀ t : Fin cfg1.N, (cfg1.win 0).index t 0 = t.val ∧ (cfg1.win 0).index t 1 = 0 ∧
    (cfg1.win 15).index t 0 = t.val ∧ (cfg1.win 15).index t 1 = 0 := by decide

section Windows
variable (m : (ℓ : Loc nD τ sig) → Buf (Elt Ideal) ℓ) (c : Dev nD) (t : Fin cfg1.N)

/-- The weights at the launch. -/
abbrev W : Moe.Weights :=
  Moe.weightsOf (X0 m c (Proc.devRef .tc main_arg1)) (X0 m c (Proc.devRef .tc main_arg2)) (X0 m c (Proc.devRef .tc main_arg3))
    (X0 m c (Proc.devRef .tc main_arg4)) (X0 m c (Proc.devRef .tc main_arg5)) (X0 m c (Proc.devRef .tc main_arg6))
    (X0 m c (Proc.devRef .tc main_arg7)) (X0 m c (Proc.devRef .tc main_arg8)) (X0 m c (Proc.devRef .tc main_arg9))
    (X0 m c (Proc.devRef .tc main_arg10)) (X0 m c (Proc.devRef .tc main_arg11)) (X0 m c (Proc.devRef .tc main_arg12))
    (X0 m c (Proc.devRef .tc main_arg13)) (X0 m c (Proc.devRef .tc main_arg14))

/-- Row `i` of the input at the launch. -/
abbrev inputRow (i : Fin 1024) : Fin 256 → EReal := fun k => (X0 m c (Proc.devRef .tc main_arg0) : A2 1024 256) (ix2 i k)

/-- What neither the precompute call nor the host writes is as launched. -/
theorem X2_kept (r : Ref sig .tc) (h : r ∉ hostOps1_W) (h' : r ≠ main_v0_0) (h'' : r ≠ main_v0_1) :
    X2 m c (Proc.devRef .tc r) = X0 m c (Proc.devRef .tc r) := (X2_other m c r h).trans (X1_other m c r h' h'')

set_option maxHeartbeats 4000000 in
/-- The main call's windows hold the weights. -/
theorem windows_read : MainCall.Reads (W m c) (MainCall.iblk (onCore (X2 m)) c 1 t) (MainCall.iblk (onCore (X2 m)) c 2 t)
    (MainCall.iblk (onCore (X2 m)) c 3 t) (MainCall.iblk (onCore (X2 m)) c 4 t) (MainCall.iblk (onCore (X2 m)) c 5 t)
    (MainCall.iblk (onCore (X2 m)) c 6 t) (MainCall.iblk (onCore (X2 m)) c 7 t) (MainCall.iblk (onCore (X2 m)) c 8 t)
    (MainCall.iblk (onCore (X2 m)) c 9 t) (MainCall.iblk (onCore (X2 m)) c 10 t) (MainCall.iblk (onCore (X2 m)) c 11 t)
    (MainCall.iblk (onCore (X2 m)) c 12 t) (MainCall.iblk (onCore (X2 m)) c 13 t) (MainCall.iblk (onCore (X2 m)) c 14 t) where
  wg1 i j := (congrArg (X2 m c (Proc.devRef .tc main_arg1)) (funext fun a => Fin.ext (place 1 (by decide) (by decide) t (ix2 i j) a))).trans
    (congrFun (X2_kept m c main_arg1 (by decide) (by decide) (by decide)) (ix2 i j))
  w1a i q := (congrArg (X2 m c (Proc.devRef .tc main_v3)) (funext fun a => Fin.ext (place 2 (by decide) (by decide) t (ix2 i q) a))).trans
    ((w1a_host (X1 m c) i q).trans (congrFun (X1_other m c main_arg2 (by decide) (by decide)) _))
  b1a q := (congrArg (X2 m c (Proc.devRef .tc main_v15)) (funext fun a => Fin.ext (place 3 (by decide) (by decide) t (ix2 0 q) a))).trans
    ((b1a_host (X1 m c) q).trans (congrFun (X1_other m c main_arg3 (by decide) (by decide)) _))
  w1b q o := (congrArg (X2 m c (Proc.devRef .tc main_v4)) (funext fun a => Fin.ext (place 4 (by decide) (by decide) t (ix2 q o) a))).trans
    ((w1b_host (X1 m c) q o).trans (congrFun (X1_other m c main_arg4 (by decide) (by decide)) _))
  b1b i j := (congrArg (X2 m c (Proc.devRef .tc main_arg5)) (funext fun a => Fin.ext (place 5 (by decide) (by decide) t (ix2 i j) a))).trans
    (congrFun (X2_kept m c main_arg5 (by decide) (by decide) (by decide)) (ix2 i j))
  wg2 i j := (congrArg (X2 m c (Proc.devRef .tc main_arg6)) (funext fun a => Fin.ext (place 6 (by decide) (by decide) t (ix2 i j) a))).trans
    (congrFun (X2_kept m c main_arg6 (by decide) (by decide) (by decide)) (ix2 i j))
  w2a i q := (congrArg (X2 m c (Proc.devRef .tc main_v6)) (funext fun a => Fin.ext (place 7 (by decide) (by decide) t (ix2 i q) a))).trans
    ((w2a_host (X1 m c) i q).trans (congrFun (X1_other m c main_arg7 (by decide) (by decide)) _))
  b2a q := (congrArg (X2 m c (Proc.devRef .tc main_v16)) (funext fun a => Fin.ext (place 8 (by decide) (by decide) t (ix2 0 q) a))).trans
    ((b2a_host (X1 m c) q).trans (congrFun (X1_other m c main_arg8 (by decide) (by decide)) _))
  m2 q f := (congrArg (X2 m c (Proc.devRef .tc main_v1)) (funext fun a => Fin.ext (place 9 (by decide) (by decide) t (ix2 q f) a))).trans
    ((m2_host (X1 m c) q f).trans ((congrFun (X1_first m c) _).trans (Precompute.m2_at _ _ _ _ f)))
  v2 e f := (congrArg (X2 m c (Proc.devRef .tc main_v0_1)) (funext fun a => Fin.ext (place 10 (by decide) (by decide) t (ix2 e f) a))).trans
    ((congrFun ((X2_other m c main_v0_1 (by decide)).trans (X1_second m c)) (ix2 e f)).trans (Precompute.v2_at _ _ e f))
  table e q := (congrArg (X2 m c (Proc.devRef .tc main_v14)) (funext fun a => Fin.ext (place 11 (by decide) (by decide) t (ix2 e q) a))).trans
    (table_host (X1 m c) e q)
  bf1 f := (congrArg (X2 m c (Proc.devRef .tc main_v17)) (funext fun a => Fin.ext (place 12 (by decide) (by decide) t (ix2 0 f) a))).trans
    ((bf1_host (X1 m c) f).trans (congrFun (X1_other m c main_arg12 (by decide) (by decide)) _))
  wf2 i j := (congrArg (X2 m c (Proc.devRef .tc main_arg13)) (funext fun a => Fin.ext (place 13 (by decide) (by decide) t (ix2 i j) a))).trans
    (congrFun (X2_kept m c main_arg13 (by decide) (by decide) (by decide)) (ix2 i j))
  bf2 j := (congrArg (X2 m c (Proc.devRef .tc main_v18)) (funext fun a => Fin.ext (place 14 (by decide) (by decide) t (ix2 0 j) a))).trans
    ((bf2_host (X1 m c) j).trans (congrFun (X1_other m c main_arg14 (by decide) (by decide)) _))

/-- Row `r` of block `t`. -/
abbrev globalRow (r : Fin 256) : Fin 1024 := ⟨t.val * 256 + r.val, by have := t.isLt; have h : cfg1.N = 4 := rfl; omega⟩

/-- A row of the first window's block is a row of the input. -/
theorem input_read (r : Fin 256) : MainCall.rowOf (MainCall.iblk (onCore (X2 m)) c 0 t) r = inputRow m c (globalRow t r) := funext fun k => by
  have hv := fun a => (cfg1.win 0).rect_emb_val t (ix2 r k) a
  refine (congrArg (X2 m c (Proc.devRef .tc main_arg0)) (funext fun a => Fin.ext ?_)).trans
    (congrFun (X2_kept m c main_arg0 (by decide) (by decide) (by decide)) (ix2 (globalRow t r) k))
  refine (hv a).trans ?_
  match a with
  | ⟨0, _⟩ => exact congrArg (· * 256 + r.val) (moving t).1
  | ⟨1, _⟩ => exact (congrArg (· * 256 + k.val) (moving t).2.1).trans (by show 0 * 256 + k.val = k.val; omega)

/-- The whole kernel's result, entry by entry: the reference's row. -/
theorem result_at (hw : (W m c).Real) (hx : ∀ i k, Moe.Real (inputRow m c i k)) (i : Fin 1024) (j : Fin 10) :
    (X3 m c (Proc.devRef .tc main_v19) : A2 1024 10) (ix2 i j) = Moe.out (W m c) (inputRow m c i) j := by
  let t : Fin cfg1.N := ⟨i.val / 256, by have h : cfg1.N = 4 := rfl; omega⟩
  let r : Fin 256 := ⟨i.val % 256, by omega⟩
  have hi : globalRow t r = i := Fin.ext (by show i.val / 256 * 256 + i.val % 256 = i.val; omega)
  have hb := congrFun (MainCall.blocks (onCore (X2 m)) c t) (ix2 r j)
  have hl : (X3 m c (Proc.devRef .tc main_v19) : A2 1024 10) (ix2 i j)
      = ((cfg1.win 15).blk t).view.read (Elt Ideal) ((MainCall.dat (onCore (X2 m)) c).arrAt 15 cfg1.N) (ix2 r j) := by
    rw [X3_result]
    refine congrArg ((MainCall.dat (onCore (X2 m)) c).arrAt 15 cfg1.N) (funext fun a => Fin.ext ?_)
    have hv := fun a => (cfg1.win 15).rect_emb_val t (ix2 r j) a
    refine Eq.trans ?_ (hv a).symm
    match a with
    | ⟨0, _⟩ => exact (congrArg Fin.val hi).symm.trans (congrArg (· * 256 + r.val) (moving t).2.2.1.symm)
    | ⟨1, _⟩ => exact Eq.trans (by show j.val = 0 * 10 + j.val; omega) (congrArg (· * 10 + j.val) (moving t).2.2.2.symm)
  have hk := MainCall.blockOut_row (W m c) (MainCall.iblk (onCore (X2 m)) c 0 t) _ _ _ _ _ _ _ _ _ _ _ _ _ _ (windows_read m c t) hw r
    (fun k => by rw [input_read]; exact hx _ k) j
  rw [hl]
  refine hb.trans (Eq.trans ?_ (hk.trans ?_))
  · rfl
  · rw [input_read, hi]; exact Moe.kernelOut_eq hw (hx i) j

end Windows
end Cert.KernelIdeal.Whole
end
-- ==== Proof.ReferenceLayers.lean ====
module
public import proofs.«01_k».proof.Proof.Gen.ReferenceIdeal.Run
public import proofs.«01_k».proof.Proof.Arguments
public import Idealize.ShloMosaic.Lib.Pointwise
public import Idealize.ShloMosaic.Lib.KernelVsHost

/-!
# The reference's layers
-/

@[expose] public section
set_option maxRecDepth 16384
noncomputable section
namespace Cert.ReferenceIdeal.Rows
open Idealize.ShloMosaic Cert.ReferenceIdeal Cert.ReferenceIdeal.Value
open Moe (A1 A2 A3)
open scoped BigOperators
variable (V : Valuation τ sig (Elt Ideal))

/-- The first layer's output of a row, from its gates. -/
theorem layer1_of (r : Fin 1024) (g : Fin 8 → EReal) (hg : ∀ e, (res_main_v29 V : A2 1024 8) (ix2 r e) = g e) (o : Fin 3136) :
    (res_main_v214 V : A2 1024 3136) (ix2 r o)
      = Moe.mix g (Moe.hidden (fun k => (V (Proc.devRef .tc main_arg0) : A2 1024 256) (ix2 r k))
          (fun e i k => (V (Proc.devRef .tc main_arg2) : A3 8 256 20) (ix3 e i k)) (fun e k => (V (Proc.devRef .tc main_arg3) : A2 8 20) (ix2 e k)))
          (fun e k o => (V (Proc.devRef .tc main_arg4) : A3 8 20 3136) (ix3 e k o)) (fun e o => (V (Proc.devRef .tc main_arg5) : A2 8 3136) (ix2 e o)) o := by
  unfold res_main_v214 res_main_v191 res_main_v115 res_main_v40 res_main_v63 res_main_v86 res_main_v109 res_main_v132 res_main_v155
    res_main_v178 res_main_v201
  generalize res_main_v29 V = G at *
  generalize V (Proc.devRef .tc main_arg0) = a0 at *
  generalize V (Proc.devRef .tc main_arg2) = a2 at *
  generalize V (Proc.devRef .tc main_arg3) = a3 at *
  generalize V (Proc.devRef .tc main_arg4) = a4 at *
  generalize V (Proc.devRef .tc main_arg5) = a5 at *
  pointwise
  simp only [hg, Moe.mix, Moe.hidden, Fin.sum_univ_eight, add_assoc]

/-- The first layer's logits. -/
theorem logits1_at (r : Fin 1024) (e : Fin 8) : (res_main_v0 V : A2 1024 8) (ix2 r e)
    = Moe.rowDot (fun k => (V (Proc.devRef .tc main_arg0) : A2 1024 256) (ix2 r k))
        (fun i j => (V (Proc.devRef .tc main_arg1) : A2 256 8) (ix2 i j)) e := by
  unfold res_main_v0
  pointwise
  rfl

/-- The second layer's logits. -/
theorem logits2_at (r : Fin 1024) (e : Fin 8) : (res_main_v215 V : A2 1024 8) (ix2 r e)
    = Moe.rowDot (fun k => (res_main_v214 V : A2 1024 3136) (ix2 r k))
        (fun i j => (V (Proc.devRef .tc main_arg6) : A2 3136 8) (ix2 i j)) e := by
  unfold res_main_v215
  pointwise
  rfl

/-- The head's logits of a row, from the second layer's gates. -/
theorem head_of (r : Fin 1024) (g : Fin 8 → EReal) (hg : ∀ e, (res_main_v244 V : A2 1024 8) (ix2 r e) = g e) (w : Moe.Weights)
    (ha : ∀ e i k, (V (Proc.devRef .tc main_arg7) : A3 8 3136 20) (ix3 e i k) = w.w2a e i k)
    (hb : ∀ e k, (V (Proc.devRef .tc main_arg8) : A2 8 20) (ix2 e k) = w.b2a e k)
    (hc : ∀ e k n, (V (Proc.devRef .tc main_arg9) : A3 8 20 93312) (ix3 e k n) = w.w2b e k n)
    (hd : ∀ e n, (V (Proc.devRef .tc main_arg10) : A2 8 93312) (ix2 e n) = w.b2b e n)
    (he : ∀ n f, (V (Proc.devRef .tc main_arg11) : A2 93312 128) (ix2 n f) = w.wf1 n f)
    (hf : ∀ f, (V (Proc.devRef .tc main_arg12) : A1 128) (ix1 f) = w.bf1 f)
    (hh : ∀ f j, (V (Proc.devRef .tc main_arg13) : A2 128 10) (ix2 f j) = w.wf2 f j)
    (hi : ∀ j, (V (Proc.devRef .tc main_arg14) : A1 10) (ix1 j) = w.bf2 j) (j : Fin 10) :
    (res_main_v438 V : A2 1024 10) (ix2 r j)
      = Moe.logits w (Moe.rowDot (Moe.mix g (Moe.hidden (fun k => (res_main_v214 V : A2 1024 3136) (ix2 r k)) w.w2a w.b2a) w.w2b w.b2b) w.wf1) j := by
  unfold res_main_v438 res_main_v406 res_main_v330 res_main_v255 res_main_v278 res_main_v301 res_main_v324 res_main_v347 res_main_v370
    res_main_v393 res_main_v416
  generalize res_main_v244 V = G at *
  generalize res_main_v214 V = y at *
  generalize V (Proc.devRef .tc main_arg7) = a7 at *
  generalize V (Proc.devRef .tc main_arg8) = a8 at *
  generalize V (Proc.devRef .tc main_arg9) = a9 at *
  generalize V (Proc.devRef .tc main_arg10) = a10 at *
  generalize V (Proc.devRef .tc main_arg11) = a11 at *
  generalize V (Proc.devRef .tc main_arg12) = a12 at *
  generalize V (Proc.devRef .tc main_arg13) = a13 at *
  generalize V (Proc.devRef .tc main_arg14) = a14 at *
  pointwise
  simp only [hg, ha, hb, hc, hd, he, hf, hh, hi, Moe.logits, Moe.rowDot, Moe.mix, Moe.hidden, Fin.sum_univ_eight, add_assoc]

/-- The reference's result. -/
abbrev resultOf : A2 1024 10 :=
  subf (res_main_call17_v5 V) (broadcastInDim S1024x10 ![0, 1] Gen.bcast_S1024x1_S1024x10_0_1 (Host.log (broadcastInDim S1024x1 ![0] Gen.bcast_S1024_S1024x1_0
    (Host.reduceAdd (Host.exp (res_main_call17_v5 V)) (constant S_ .f32 0x00000000#32) Gen.reducesTo_S1024x10_S1024_d1 Gen.h_S_))))

/-- The greatest of a row of the head's logits. -/
theorem rowMax (x : FVec Ideal S1024x10 .f32) (r : Fin 1024) :
    Host.reduce FloatOps.maximumf x (constant S_ .f32 0xFF800000#32) Gen.reducesTo_S1024x10_S1024_d1 Gen.h_S_ (ix1 r)
      = Moe.top (fun j => x (ix2 r j)) := by
  rw [hostReduce_maximumf_eq_multiReduction x _ _ _ (by decide) (by decide) (by decide)]
  pointwise
  rfl

/-- The result's row, from the head's logits. -/
theorem softmax_of (r : Fin 1024) (y : Fin 10 → EReal) (hy : ∀ j, (res_main_v438 V : A2 1024 10) (ix2 r j) = y j) (j : Fin 10) :
    resultOf V (ix2 r j) = Moe.logSoftmax (Moe.top y) y j := by
  have ht : max (Ideal.ofBits FTy.f32 0xFF800000#32) (Moe.top y) = Moe.top y := by rw [Moe.negInf]; exact bot_sup_eq _
  have hm := rowMax (res_main_v438 V) r
  simp only [hy] at hm
  have h5 : ∀ j, (res_main_call17_v5 V : A2 1024 10) (ix2 r j) = y j - Moe.top y := fun j => by
    unfold res_main_call17_v5
    generalize Host.reduce FloatOps.maximumf (res_main_v438 V) _ _ _ = M at *
    pointwise
    rw [hm, hy, ht]
  unfold resultOf
  generalize res_main_call17_v5 V = Z at *
  clear hm hy
  generalize Moe.top y = M at *
  pointwise
  simp only [h5]
  unfold Moe.logSoftmax
  rw [zero_add]

end Cert.ReferenceIdeal.Rows
end
-- ==== Proof.ReferenceGates.lean ====
module
public import proofs.«01_k».proof.Proof.Gen.ReferenceIdeal.Run
public import proofs.«01_k».proof.Proof.Arguments
public import Idealize.ShloMosaic.Lib.Pointwise
public import Idealize.ShloMosaic.Lib.KernelVsHost
public import Idealize.ShloMosaic.Lib.ScatterToDense.RefScatter

/-!
# The reference's gates
-/

@[expose] public section
set_option maxRecDepth 16384
noncomputable section
namespace Cert.ReferenceIdeal.Rows
open Idealize.ShloMosaic Cert.ReferenceIdeal Cert.ReferenceIdeal.Value Cert.ReferenceIdeal.Gen
open Moe (A1 A2 A3)
open scoped BigOperators

variable (L : FVec Ideal S1024x8 .f32) (r : Fin 1024)

/-- A row of the logits. -/
abbrev logitsRow : Fin 8 → EReal := fun e => L (ix2 r e)

/-- The two greatest logits of every row, -/
abbrev values : FVec Ideal S1024x2 .f32 := (Host.topK S1024x2 1 (FloatOps.cmpfTotal .gt) L sliceFits_S1024x8_S1024x2).1
/-- and their experts. -/
abbrev indices : IVec S1024x2 32 := (Host.topK S1024x2 1 (FloatOps.cmpfTotal .gt) L sliceFits_S1024x8_S1024x2).2

/-- The order the sort of a row goes by. -/
theorem sorts (k : Fin 8) :
    sortedFrom (fun a b : Fin 8 => FloatOps.cmpfTotal (F := Ideal) (φ := .f32) .gt (logitsRow L r a) (logitsRow L r b) == 1#1) k
      = sortedFrom (Moe.before (logitsRow L r)) k := by
  refine congrArg (fun f => sortedFrom f k) (funext fun a => funext fun b => ?_)
  show (BitVec.ofBool (decide _) == 1#1) = decide _
  by_cases h : logitsRow L r b < logitsRow L r a <;> simp [h]

/-- Along the second axis of a row. -/
theorem along_row (k e : Fin 8) : (ix2 r k : S1024x8.Idx).along 1 e = ix2 r e := by
  funext a
  unfold Shape.Idx.along
  match a with
  | ⟨0, _⟩ => rfl
  | ⟨1, _⟩ => rfl

/-- Where a slice of the first two columns reads. -/
theorem slice_row {α : Type} (x : S1024x8.Idx → α) (k : Fin 2) :
    extractStridedSlice S1024x2 (fun _ => 0) x sliceFits_S1024x8_S1024x2 (ix2 r k) = x (ix2 r ⟨k.val, by omega⟩) := by
  refine congrArg x (funext fun a => Fin.ext ?_)
  match a with
  | ⟨0, _⟩ => show 0 + r.val = r.val; omega
  | ⟨1, _⟩ => show 0 + k.val = k.val; omega

/-- The sort of a row, as the sort of the whole array spells it. -/
theorem sorts_row (k k' : Fin 8) :
    sortedFrom (fun a b : Fin 8 => FloatOps.cmpfTotal (F := Ideal) (φ := .f32) .gt (L ((ix2 r k : S1024x8.Idx).along 1 a)) (L ((ix2 r k : S1024x8.Idx).along 1 b)) == 1#1) k'
      = sortedFrom (Moe.before (logitsRow L r)) k' := by
  rw [← sorts]
  refine congrArg (fun f => sortedFrom f k') (funext fun a => funext fun b => ?_)
  rw [along_row, along_row]

theorem values_at (k : Fin 2) :
    values L (ix2 r k) = logitsRow L r (sortedFrom (Moe.before (logitsRow L r)) ⟨k.val, by omega⟩) := by
  unfold values Host.topK
  dsimp only
  rw [slice_row]
  unfold Host.sort2
  rw [dif_pos (by decide)]
  exact (congrArg L (along_row r _ _)).trans (congrArg (logitsRow L r) (sorts_row L r _ _))

theorem indices_at (k : Fin 2) :
    indices L (ix2 r k) = BitVec.ofNat 32 (sortedFrom (Moe.before (logitsRow L r)) ⟨k.val, by omega⟩).val := by
  unfold indices Host.topK
  dsimp only
  rw [slice_row]
  unfold Host.sort2
  rw [dif_pos (by decide)]
  have h : ∀ e : Fin 8, iotaInDim S1024x8 32 1 (ix2 r e) = BitVec.ofNat 32 e.val := fun e => rfl
  exact (congrArg (iotaInDim S1024x8 32 1) (along_row r _ _)).trans ((h _).trans (congrArg (fun e : Fin 8 => BitVec.ofNat 32 e.val) (sorts_row L r _ _)))

/-- The exponentials of the two logits less their maximum. -/
abbrev exps : FVec Ideal S1024x2 .f32 :=
  Host.exp (subf (values L) (broadcastInDim S1024x2 ![0, 1] bcast_S1024x1_S1024x2_0_1 (broadcastInDim S1024x1 ![0] bcast_S1024_S1024x1_0 (maximumf (broadcastInDim S1024 ![] bcast_S_S1024 (constant S_ .f32 0xFF800000#32)) (Host.reduce FloatOps.maximumf (values L) (constant S_ .f32 0xFF800000#32) reducesTo_S1024x2_S1024_d1 h_S_)))))

/-- The rows' numbers. -/
abbrev rowNumbers : IVec S1024x1 32 := broadcastInDim S1024x1 ![0] bcast_S1024_S1024x1_0 (iotaInDim S1024 32 0)

/-- The gates of all rows. -/
abbrev gates : FVec Ideal S1024x8 .f32 :=
  Host.scatter scatter_S1024x8_S1024x2x2_S1024x2_n_01_01_2 (fun _ b => b) (broadcastInDim S1024x8 ![] bcast_S_S1024x8 (constant S_ .f32 0x00000000#32)) (concatenate S1024x2x2 2 [⟨S1024x2x1, (broadcastInDim S1024x2x1 ![0, 1] bcast_S1024x2_S1024x2x1_0_1 (broadcastInDim S1024x2 ![0, 1] bcast_S1024x1_S1024x2_0_1 (select (cmpi .slt rowNumbers (broadcastInDim S1024x1 ![] bcast_S_S1024x1 (constantI S_ 32 0#32))) (addi rowNumbers (broadcastInDim S1024x1 ![] bcast_S_S1024x1 (constantI S_ 32 1024#32))) rowNumbers)))⟩, ⟨S1024x2x1, (broadcastInDim S1024x2x1 ![0, 1] bcast_S1024x2_S1024x2x1_0_1 (select (cmpi .slt (indices L) (broadcastInDim S1024x2 ![] bcast_S_S1024x2 (constantI S_ 32 0#32))) (addi (indices L) (broadcastInDim S1024x2 ![] bcast_S_S1024x2 (constantI S_ 32 8#32))) (indices L)))⟩] concatenates_S1024x2x1_S1024x2x1_S1024x2x2_d2) (Host.divf (exps L) (broadcastInDim S1024x2 ![0, 1] bcast_S1024x1_S1024x2_0_1 (broadcastInDim S1024x1 ![0] bcast_S1024_S1024x1_0 (Host.reduceAdd (exps L) (constant S_ .f32 0x00000000#32) reducesTo_S1024x2_S1024_d1 h_S_))))

/-- The greater of two. -/
theorem pairMax (x : FVec Ideal S1024x2 .f32) :
    Host.reduce FloatOps.maximumf x (constant S_ .f32 0xFF800000#32) reducesTo_S1024x2_S1024_d1 h_S_ (ix1 r)
      = max (x (ix2 r 0)) (x (ix2 r 1)) := by
  rw [hostReduce_maximumf_eq_multiReduction x _ _ _ (by decide) (by decide) (by decide)]
  pointwise
  rw [show (Finset.univ : Finset (Fin 2)) = {0, 1} from rfl, Finset.fold_insert (by decide), Finset.fold_singleton, Moe.negInf, max_bot_right]

theorem exps_at (k : Fin 2) : exps L (ix2 r k) = Ideal.exp (values L (ix2 r k) - max (values L (ix2 r 0)) (values L (ix2 r 1))) := by
  have hm := pairMax r (values L)
  unfold exps
  generalize Host.reduce FloatOps.maximumf (values L) _ _ _ = M at *
  generalize values L = v at *
  pointwise
  rw [hm, Moe.negInf, max_bot_left]

/-- The first exponential is one, -/
theorem exps_first (hl : ∀ e, Moe.Real (logitsRow L r e)) : exps L (ix2 r 0) = 1 := by
  have h0 : values L (ix2 r 0) = logitsRow L r (Moe.first (logitsRow L r)) := values_at L r 0
  have h1 : values L (ix2 r 1) = logitsRow L r (Moe.second (logitsRow L r)) := values_at L r 1
  rw [exps_at, h0, h1, max_eq_left (Moe.first_le _ _)]
  obtain ⟨a, ha⟩ := hl (Moe.first (logitsRow L r))
  rw [ha, ← EReal.coe_sub, sub_self]
  show ((Real.exp 0 : ℝ) : EReal) = 1
  rw [Real.exp_zero]; rfl

/-- and the second the ratio. -/
theorem exps_second : exps L (ix2 r 1) = Moe.ratio (logitsRow L r) := by
  have h0 : values L (ix2 r 0) = logitsRow L r (Moe.first (logitsRow L r)) := values_at L r 0
  have h1 : values L (ix2 r 1) = logitsRow L r (Moe.second (logitsRow L r)) := values_at L r 1
  rw [exps_at, h0, h1, max_eq_left (Moe.first_le _ _)]
  rfl

/-- The two picked experts of a row, -/
def pick (i : Fin 1024) (k : ℕ) : Fin 8 := if k = 0 then Moe.first (logitsRow L i) else Moe.second (logitsRow L i)
/-- and their gates. -/
def share (i : Fin 1024) (k : ℕ) : EReal :=
  if k = 0 then Ideal.div 1 (1 + Moe.ratio (logitsRow L i)) else Ideal.div (Moe.ratio (logitsRow L i)) (1 + Moe.ratio (logitsRow L i))

/-- A place's number is not negative. -/
theorem place_word (i : ℕ) (h : i < 1024) (c : BitVec 32) :
    Scalar.select (IntOp.cmpi .slt (BitVec.ofNat 32 i) 0#32) c (BitVec.ofNat 32 i) = BitVec.ofNat 32 i := by
  rw [WordCmp.cmpi_slt_zero, WordCmp.select_decide, if_neg]
  rw [BitVec.toNat_ofNat, Nat.mod_eq_of_lt (by omega)]
  omega

/-- The reference's gates are the softmax over the two greatest logits, scattered. -/
theorem gates_at (hl : ∀ i e, Moe.Real (logitsRow L i e)) (e : Fin 8) : gates L (ix2 r e) = Moe.gate (logitsRow L r) e := by
  have hi : ∀ (i : Fin 1024) (k : Fin 2), indices L (ix2 i k) = BitVec.ofNat 32 (pick L i k.val).val := fun i k => by
    rw [indices_at]
    match k with
    | ⟨0, _⟩ => rfl
    | ⟨1, _⟩ => rfl
  have hs := exps_second L
  have hf := fun i => exps_first L i (hl i)
  unfold gates
  generalize indices L = ind at *
  generalize exps L = x at *
  refine (ScatterToDense.scatter_eq_GS _ rfl rfl rfl (by decide) (by decide) _ _ _ (fun i k => BitVec.ofNat 32 (pick L i k).val) (share L) (fun i k => ?_)
    (fun i k => ?_) (fun i k => ?_) r e).trans ?_
  · pointwise
    exact place_word i.val i.isLt _
  · pointwise
    show Scalar.select (IntOp.cmpi .slt (ind (ix2 i k)) 0#32) (IntOp.addi (ind (ix2 i k)) 8#32) (ind (ix2 i k)) = _
    rw [hi]
    exact place_word _ ((pick L i k.val).isLt.trans (by decide)) _
  · pointwise
    show Ideal.div (x (ix2 i k)) (∑ y, x (ix2 i y)) = _
    rw [Fin.sum_univ_two, hf, hs]
    match k with
    | ⟨0, _⟩ => exact congrArg (fun z => Ideal.div z _) (hf i)
    | ⟨1, _⟩ => exact congrArg (fun z => Ideal.div z _) (hs i)
  · have h0 : broadcastInDim S1024x8 ![] bcast_S_S1024x8 (constant (F := Ideal) S_ .f32 0x00000000#32) (ix2 r e) = (0 : EReal) := by pointwise
    have hw : ∀ a : Fin 8, (e.val = (BitVec.ofNat 32 a.val).toNat) ↔ e = a := fun a => by
      rw [BitVec.toNat_ofNat, Nat.mod_eq_of_lt (a.isLt.trans (by decide))]; exact Fin.val_inj
    have hne := Moe.second_ne (logitsRow L r)
    rw [ScatterToDense.GS_succ, ScatterToDense.GS_succ, ScatterToDense.GS_zero]
    refine Eq.trans (if_congr (hw _) rfl (if_congr (hw _) rfl h0)) ?_
    unfold Moe.gate
    show (if e = Moe.second (logitsRow L r) then Ideal.div (Moe.ratio (logitsRow L r)) (1 + Moe.ratio (logitsRow L r))
      else if e = Moe.first (logitsRow L r) then Ideal.div 1 (1 + Moe.ratio (logitsRow L r)) else 0) = _
    by_cases h : e = Moe.second (logitsRow L r)
    · rw [if_pos h, if_neg (h ▸ hne), if_pos h]
    · rw [if_neg h]
      split
      · rfl
      · rfl

end Cert.ReferenceIdeal.Rows
end
-- ==== Proof.ReferenceValue.lean ====
module
public import proofs.«01_k».proof.Proof.ReferenceLayers
public import proofs.«01_k».proof.Proof.ReferenceGates

/-!
# The reference's result, entry by entry
-/

@[expose] public section
set_option maxRecDepth 16384
noncomputable section
namespace Cert.ReferenceIdeal.Rows
open Idealize.ShloMosaic Cert.ReferenceIdeal Cert.ReferenceIdeal.Value
open Moe (A1 A2 A3)
variable (V : Valuation τ sig (Elt Ideal))

/-- The weights. -/
abbrev W : Moe.Weights :=
  Moe.weightsOf (V (Proc.devRef .tc main_arg1)) (V (Proc.devRef .tc main_arg2)) (V (Proc.devRef .tc main_arg3))
    (V (Proc.devRef .tc main_arg4)) (V (Proc.devRef .tc main_arg5)) (V (Proc.devRef .tc main_arg6))
    (V (Proc.devRef .tc main_arg7)) (V (Proc.devRef .tc main_arg8)) (V (Proc.devRef .tc main_arg9))
    (V (Proc.devRef .tc main_arg10)) (V (Proc.devRef .tc main_arg11)) (V (Proc.devRef .tc main_arg12))
    (V (Proc.devRef .tc main_arg13)) (V (Proc.devRef .tc main_arg14))

/-- Row `i` of the input. -/
abbrev inputRow (i : Fin 1024) : Fin 256 → EReal := fun k => (V (Proc.devRef .tc main_arg0) : A2 1024 256) (ix2 i k)

/-- The first layer's gates are of the first logits, -/
theorem gates1_eq : res_main_v29 V = gates (res_main_v0 V) := rfl
/-- and the second's of the second. -/
theorem gates2_eq : res_main_v244 V = gates (res_main_v215 V) := rfl

/-- The reference's result, entry by entry, is the row mathematics. -/
theorem result_at (hw : (W V).Real) (hx : ∀ i k, Moe.Real (inputRow V i k)) (i : Fin 1024) (j : Fin 10) :
    resultOf V (ix2 i j) = Moe.out (W V) (inputRow V i) j := by
  have l1 : ∀ i, logitsRow (res_main_v0 V) i = Moe.rowDot (inputRow V i) (W V).wg1 := fun i => funext fun e => logits1_at V i e
  have g1 : ∀ i e, (res_main_v29 V : A2 1024 8) (ix2 i e) = Moe.gate (Moe.rowDot (inputRow V i) (W V).wg1) e := fun i e => by
    rw [gates1_eq, gates_at _ _ (fun i e => by rw [l1]; exact Moe.real_logits1 hw (hx i) e), l1]
  have y1 : ∀ i, (fun o => (res_main_v214 V : A2 1024 3136) (ix2 i o)) = Moe.layer1 (W V) (inputRow V i) := fun i => funext fun o =>
    layer1_of V i _ (g1 i) o
  have l2 : ∀ i, logitsRow (res_main_v215 V) i = Moe.rowDot (Moe.layer1 (W V) (inputRow V i)) (W V).wg2 := fun i => funext fun e =>
    (logits2_at V i e).trans (by rw [y1]; rfl)
  have g2 : ∀ i e, (res_main_v244 V : A2 1024 8) (ix2 i e) = Moe.gate (Moe.rowDot (Moe.layer1 (W V) (inputRow V i)) (W V).wg2) e := fun i e => by
    rw [gates2_eq, gates_at _ _ (fun i e => by rw [l2]; exact Moe.real_logits2 hw (hx i) e), l2]
  refine softmax_of V i _ (fun j => ?_) j
  refine (head_of V i _ (g2 i) (W V) (fun _ _ _ => rfl) (fun _ _ => rfl) (fun _ _ _ => rfl) (fun _ _ => rfl) (fun _ _ => rfl) (fun _ => rfl)
    (fun _ _ => rfl) (fun _ => rfl) j).trans ?_
  rw [y1]
  rfl

end Cert.ReferenceIdeal.Rows
end
-- ==== Proof.Algebraic.lean ====
module
public import proofs.«01_k».proof.Defs
public import proofs.«01_k».proof.Proof.Frames
public import proofs.«01_k».proof.Proof.Finite
public import proofs.«01_k».proof.Proof.KernelValue
public import proofs.«01_k».proof.Proof.ReferenceValue

/-!
# Kernel and reference agree

From arguments that are real throughout, the kernel and the reference end with the same result.
-/

@[expose] public section
set_option maxRecDepth 16384
noncomputable section
namespace Cert.Algebraic
open Idealize.ShloMosaic Idealize.ShloMosaic.TcCoe Idealize.SL.Sem
open Moe (A1 A2 A3)

/-- Equal arguments hold equal weights. -/
theorem weights_congr {a1 b1 : A2 256 8} {a2 b2 : A3 8 256 20} {a3 b3 : A2 8 20} {a4 b4 : A3 8 20 3136} {a5 b5 : A2 8 3136} {a6 b6 : A2 3136 8}
    {a7 b7 : A3 8 3136 20} {a8 b8 : A2 8 20} {a9 b9 : A3 8 20 93312} {a10 b10 : A2 8 93312} {a11 b11 : A2 93312 128} {a12 b12 : A1 128}
    {a13 b13 : A2 128 10} {a14 b14 : A1 10} (h1 : a1 = b1) (h2 : a2 = b2) (h3 : a3 = b3) (h4 : a4 = b4) (h5 : a5 = b5) (h6 : a6 = b6)
    (h7 : a7 = b7) (h8 : a8 = b8) (h9 : a9 = b9) (h10 : a10 = b10) (h11 : a11 = b11) (h12 : a12 = b12) (h13 : a13 = b13) (h14 : a14 = b14) :
    Moe.weightsOf a1 a2 a3 a4 a5 a6 a7 a8 a9 a10 a11 a12 a13 a14 = Moe.weightsOf b1 b2 b3 b4 b5 b6 b7 b8 b9 b10 b11 b12 b13 b14 := by
  subst h1 h2 h3 h4 h5 h6 h7 h8 h9 h10 h11 h12 h13 h14; rfl

/-- Under the precondition the weights and the input are real. -/
theorem real_arguments [Cert.Pre_finite.Facts]
    (m : (ℓ : Loc Cert.KernelIdeal.nD Cert.KernelIdeal.τ Cert.KernelIdeal.sig) → Buf (Elt Ideal) ℓ) (h : Cert.Pre_KernelIdeal_finite m)
    (c : Dev Cert.KernelIdeal.nD) :
    (KernelIdeal.Whole.W m c).Real ∧ ∀ i k, Moe.Real (KernelIdeal.Whole.inputRow m c i k) := by
  obtain ⟨h0, h1, h2, h3, h4, h5, h6, h7, h8, h9, h10, h11, h12, h13, h14⟩ := Cert.Pre_finite.reads _ _ _ _ _ _ _ _ _ _ _ _ _ _ _ (h c)
  exact ⟨⟨fun _ _ => h1 _, fun _ _ _ => h2 _, fun _ _ => h3 _, fun _ _ _ => h4 _, fun _ _ => h5 _, fun _ _ => h6 _, fun _ _ _ => h7 _,
    fun _ _ => h8 _, fun _ _ _ => h9 _, fun _ _ => h10 _, fun _ _ => h11 _, fun _ => h12 _, fun _ _ => h13 _, fun _ => h14 _⟩, fun _ _ => h0 _⟩

/-- The kernel and the reference, from the same real arguments, end with the same result and their arguments as launched. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => KernelIdeal.Whole.X3 m c (Proc.devRef .tc KernelIdeal.main_v19),
    (θ_run _ _ _).mono (fun r h => h.1) (Cert.Frames.kernel_run m g),
    (θ_run _ _ _).mono (fun r h c => ?_) (Cert.ReferenceIdeal.Value.run m' g')⟩
  refine ⟨(h c).1.trans ?_, (h c).2⟩
  obtain ⟨h0, h1, h2, h3, h4, h5, h6, h7, h8, h9, h10, h11, h12, h13, h14⟩ := hargs c
  obtain ⟨hw, hx⟩ := real_arguments m hpre c
  have eW : ReferenceIdeal.Rows.W (StableHlo.launchContents m' c) = KernelIdeal.Whole.W m c :=
    weights_congr h1 h2 h3 h4 h5 h6 h7 h8 h9 h10 h11 h12 h13 h14
  have eX : ∀ i, ReferenceIdeal.Rows.inputRow (StableHlo.launchContents m' c) i = KernelIdeal.Whole.inputRow m c i := fun i =>
    funext fun k => congrFun h0 (ix2 i k)
  have key : ∀ (i : Fin 1024) (j : Fin 10), ReferenceIdeal.Rows.resultOf (StableHlo.launchContents m' c) (ix2 i j)
      = (KernelIdeal.Whole.X3 m c (Proc.devRef .tc KernelIdeal.main_v19) : A2 1024 10) (ix2 i j) := fun i j => by
    rw [KernelIdeal.Whole.result_at m c hw hx i j, ← eW, ← eX]
    exact ReferenceIdeal.Rows.result_at _ (eW ▸ hw) (fun i k => by rw [eX]; exact hx i k) i j
  funext (z : (⟨2, ![1024, 10]⟩ : Shape).Idx)
  have hz : z = ix2 (z 0) (z 1) := by
    funext a
    match a with
    | ⟨0, _⟩ => rfl
    | ⟨1, _⟩ => rfl
  rw [hz]
  exact key _ _

end Cert.Algebraic
end
-- ==== Proof.lean ====
/-
The claims of the statement, put together: the frame of each program, that idealizing changed nothing, and that the kernel's result is
the reference's.
-/
module

public import proofs.«01_k».proof.Defs
public import proofs.«01_k».proof.Proof.Frames
public import proofs.«01_k».proof.Proof.Algebraic

@[expose] public section

noncomputable section

namespace Cert.Proof

open Idealize.ShloMosaic Idealize.SL.Sem

/-- Everything the statement claims. -/
theorem claim : Cert.Claim :=
  ⟨Cert.Kernel.Gen.facts, Cert.KernelIdeal.Gen.facts, Cert.ReferenceIdeal.Gen.facts, Cert.Pre_finite.Gen.facts,
    Cert.Frames.kernel, Cert.Frames.kernelIdeal, Cert.Frames.kernelIdeal_finite, Cert.Frames.referenceIdeal,
    Cert.Frames.referenceIdeal_finite, trivial, Cert.Algebraic.algebraic⟩

end Cert.Proof

end
